-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_n" .f32 0x3727C5AC#32 ((1 / 100000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S100000x64 : Shape := ⟨2, ![100000, 64]⟩
abbrev S100000x3 : Shape := ⟨2, ![100000, 3]⟩
abbrev S100000 : Shape := ⟨1, ![100000]⟩
abbrev S64x64 : Shape := ⟨2, ![64, 64]⟩
abbrev S64 : Shape := ⟨1, ![64]⟩
abbrev S64x3 : Shape := ⟨2, ![64, 3]⟩
abbrev S3 : Shape := ⟨1, ![3]⟩
abbrev S64x20 : Shape := ⟨2, ![64, 20]⟩
abbrev S20 : Shape := ⟨1, ![20]⟩
abbrev S_ : Shape := ⟨0, ![]⟩

class Facts : Prop where
  bcast_S_S100000x64 : S_.BroadcastsInDim S100000x64 (![] : Fin 0 → Fin S100000x64.rank)
  bcast_S_S64x64 : S_.BroadcastsInDim S64x64 (![] : Fin 0 → Fin S64x64.rank)
  bcast_S_S64 : S_.BroadcastsInDim S64 (![] : Fin 0 → Fin S64.rank)
  bcast_S_S64x20 : S_.BroadcastsInDim S64x20 (![] : Fin 0 → Fin S64x20.rank)
  bcast_S_S20 : S_.BroadcastsInDim S20 (![] : Fin 0 → Fin S20.rank)

variable [Facts]

def fn {F : FTy → Type} [FloatOps F] (main_arg0 : FVec F S100000x64 .f32) (main_arg1 : FVec F S100000x3 .f32) (main_arg2 : FVec F S100000x3 .f32) (main_arg3 : IVec S100000 32) (main_arg4 : IVec S100000 32) (main_arg5 : FVec F S64x64 .f32) (main_arg6 : FVec F S64 .f32) (main_arg7 : FVec F S64 .f32) (main_arg8 : FVec F S64 .f32) (main_arg9 : FVec F S64x3 .f32) (main_arg10 : FVec F S3 .f32) (main_arg11 : FVec F S64x20 .f32) (main_arg12 : FVec F S20 .f32) : IVec S100000x64 1 × IVec S64x64 1 × IVec S64 1 × IVec S64 1 × IVec S64x20 1 × IVec S20 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_v3 : FVec F S64x64 .f32 := Host.absf main_arg5
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_v6 : FVec F S64 .f32 := Host.absf main_arg6
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg7
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64x20 .f32 := Host.absf main_arg11
  let main_cst_3 : FVec F S_ .f32 := constant S_ .f32 0x7F800000#32
  let main_v13 : FVec F S64x20 .f32 := broadcastInDim S64x20 ![] bcast_S_S64x20 main_cst_3
  let main_v14 : IVec S64x20 1 := cmpf .olt main_v12 main_v13
  let main_v15 : FVec F S20 .f32 := Host.absf main_arg12
  let main_cst_4 : FVec F S_ .f32 := constant S_ .f32 0x7F800000#32
  let main_v16 : FVec F S20 .f32 := broadcastInDim S20 ![] bcast_S_S20 main_cst_4
  let main_v17 : IVec S20 1 := cmpf .olt main_v15 main_v16
  (main_v2, main_v5, main_v8, main_v11, main_v14, main_v17)
-- ==== Kernel.lean ====
abbrev S100000x64 : Shape := ⟨2, ![100000, 64]⟩
abbrev S100000x3 : Shape := ⟨2, ![100000, 3]⟩
abbrev S100000 : Shape := ⟨1, ![100000]⟩
abbrev S64x64 : Shape := ⟨2, ![64, 64]⟩
abbrev S64 : Shape := ⟨1, ![64]⟩
abbrev S64x3 : Shape := ⟨2, ![64, 3]⟩
abbrev S3 : Shape := ⟨1, ![3]⟩
abbrev S64x20 : Shape := ⟨2, ![64, 20]⟩
abbrev S20 : Shape := ⟨1, ![20]⟩
abbrev S100000x1 : Shape := ⟨2, ![100000, 1]⟩
abbrev S100000x8 : Shape := ⟨2, ![100000, 8]⟩
abbrev S10x10000x8 : Shape := ⟨3, ![10, 10000, 8]⟩
abbrev S10x8x10000 : Shape := ⟨3, ![10, 8, 10000]⟩
abbrev S20x1 : Shape := ⟨2, ![20, 1]⟩
abbrev S1x64 : Shape := ⟨2, ![1, 64]⟩
abbrev S3x1 : Shape := ⟨2, ![3, 1]⟩
abbrev S1x1 : Shape := ⟨2, ![1, 1]⟩
abbrev S10000x64 : Shape := ⟨2, ![10000, 64]⟩
abbrev S1x8x10000 : Shape := ⟨3, ![1, 8, 10000]⟩
abbrev S10x64x10000 : Shape := ⟨3, ![10, 64, 10000]⟩
abbrev S64x1 : Shape := ⟨2, ![64, 1]⟩
abbrev S64x10000 : Shape := ⟨2, ![64, 10000]⟩
abbrev S1x64x10000 : Shape := ⟨3, ![1, 64, 10000]⟩
abbrev S20x10000 : Shape := ⟨2, ![20, 10000]⟩
abbrev S8x10000 : Shape := ⟨2, ![8, 10000]⟩
abbrev S1x10000 : Shape := ⟨2, ![1, 10000]⟩
abbrev S10000 : Shape := ⟨1, ![10000]⟩
abbrev S1x1x10000 : Shape := ⟨3, ![1, 1, 10000]⟩
abbrev S1 : Shape := ⟨1, ![1]⟩
abbrev S1x1x1 : Shape := ⟨3, ![1, 1, 1]⟩
abbrev S3x10000 : Shape := ⟨2, ![3, 10000]⟩

abbrev nBuf : Space → Nat
  | .hbm => 26
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S100000x3, .f32⟩
  | .hbm, ⟨2, _⟩ => ⟨S100000x3, .f32⟩
  | .hbm, ⟨3, _⟩ => ⟨S100000, .i32⟩
  | .hbm, ⟨4, _⟩ => ⟨S100000, .i32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x3, .f32⟩
  | .hbm, ⟨10, _⟩ => ⟨S3, .f32⟩
  | .hbm, ⟨11, _⟩ => ⟨S64x20, .f32⟩
  | .hbm, ⟨12, _⟩ => ⟨S20, .f32⟩
  | .hbm, ⟨13, _⟩ => ⟨S100000, .f32⟩
  | .hbm, ⟨14, _⟩ => ⟨S100000x1, .f32⟩
  | .hbm, ⟨15, _⟩ => ⟨S100000, .f32⟩
  | .hbm, ⟨16, _⟩ => ⟨S100000x1, .f32⟩
  | .hbm, ⟨17, _⟩ => ⟨S100000x8, .f32⟩
  | .hbm, ⟨18, _⟩ => ⟨S10x10000x8, .f32⟩
  | .hbm, ⟨19, _⟩ => ⟨S10x8x10000, .f32⟩
  | .hbm, ⟨20, _⟩ => ⟨S20x1, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S3x1, .f32⟩
  | .hbm, ⟨25, _⟩ => ⟨S1x1, .f32⟩
  | .local _ .vmem, ⟨0, _⟩ => ⟨S10000x64, .f32⟩
  | .local _ .vmem, ⟨1, _⟩ => ⟨S10000x64, .f32⟩
  | .local _ .vmem, ⟨2, _⟩ => ⟨S1x8x10000, .f32⟩
  | .local _ .vmem, ⟨3, _⟩ => ⟨S1x8x10000, .f32⟩
  | .local _ .vmem, ⟨4, _⟩ => ⟨S64x64, .f32⟩
  | .local _ .vmem, ⟨5, _⟩ => ⟨S64x20, .f32⟩
  | .local _ .vmem, ⟨6, _⟩ => ⟨S20x1, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x3, .f32⟩
  | .local _ .vmem, ⟨11, _⟩ => ⟨S3x1, .f32⟩
  | .local _ .vmem, ⟨12, _⟩ => ⟨S1x1, .f32⟩
  | .local _ .vmem, ⟨13, _⟩ => ⟨S10x64x10000, .bf16⟩
  | .local _ .vmem, ⟨14, _⟩ => ⟨S64x64, .f32⟩
  | .local _ .vmem, ⟨15, _⟩ => ⟨S1x64, .f32⟩
  | .local _ .vmem, ⟨16, _⟩ => ⟨S1x1, .f32⟩
  | .local _ .vmem, ⟨17, _⟩ => ⟨S1x1, .f32⟩
  | .local _ .vmem, ⟨18, _⟩ => ⟨S64x1, .bf16⟩
  | .local _ .vmem, ⟨19, _⟩ => ⟨S64x1, .bf16⟩
  | .local _ .vmem, ⟨20, _⟩ => ⟨S1x1, .f32⟩
  | .local _ .vmem, ⟨21, _⟩ => ⟨S1x1, .f32⟩
  | .local _ .vmem, ⟨22, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c10_i32 : BitVec 32 := 10#32
  let v3 : BitVec 1 := Scalar.cmpi .slt arg0 c10_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v32 : Index := Scalar.indexCast arg0
  let c0_20 : Index := 0#32
  let c0_21 : Index := 0#32
  ![v32.toNat, 0, 0]
def k0_cond4 (i : grid0.Coords) : BitVec 1 :=
  let arg0 : BitVec 32 := BitVec.ofNat 32 (i 0).val
  let c10_i32_4 : BitVec 32 := 10#32
  let v9 : BitVec 1 := Scalar.cmpi .sge arg0 c10_i32_4
  let v10 : BitVec 32 := Scalar.extui v9
  let c0_i32_5 : BitVec 32 := 0#32
  let v11 : BitVec 1 := Scalar.cmpi .ne v10 c0_i32_5
  v11

def k0_off2 (i : grid0.Coords) : Fin 3 → Nat :=
  let arg0 : BitVec 32 := BitVec.ofNat 32 (i 0).val
  let c10_i32_7 : BitVec 32 := 10#32
  let v15 : BitVec 32 := Scalar.subi arg0 c10_i32_7
  let v16 : Index := Scalar.indexCast v15
  let c0 : Index := 0#32
  let c0_8 : Index := 0#32
  ![v16.toNat, 0, 0]
def k0_cond5 (i : grid0.Coords) : BitVec 1 :=
  let arg0 : BitVec 32 := BitVec.ofNat 32 (i 0).val
  let c19_i32 : BitVec 32 := 19#32
  let v12 : BitVec 1 := Scalar.cmpi .eq arg0 c19_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c10_i32 : BitVec 32 := 10#32
  let v0 : BitVec 1 := Scalar.cmpi .slt arg0 c10_i32
  let c9_i32 : BitVec 32 := 9#32
  let v1 : BitVec 32 := Scalar.select v0 arg0 c9_i32
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let c10_i32 : BitVec 32 := 10#32
  let v0 : BitVec 1 := Scalar.cmpi .slt arg0 c10_i32
  let c10_i32_0 : BitVec 32 := 10#32
  let v1 : BitVec 32 := Scalar.subi arg0 c10_i32_0
  let v2 : BitVec 32 := Scalar.select v0 arg0 v1
  let c0_i32 : BitVec 32 := 0#32
  let c0_i32_1 : BitVec 32 := 0#32
  let c0_i32_2 : BitVec 32 := 0#32
  ![v2.toNat, c0_i32.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_n" => some ((1 / 100000 : ℝ) : EReal)
  | _ => none
-- ==== ReferenceIdeal.lean ====
abbrev S100000x64 : Shape := ⟨2, ![100000, 64]⟩
abbrev S100000x3 : Shape := ⟨2, ![100000, 3]⟩
abbrev S100000 : Shape := ⟨1, ![100000]⟩
abbrev S64x64 : Shape := ⟨2, ![64, 64]⟩
abbrev S64 : Shape := ⟨1, ![64]⟩
abbrev S64x3 : Shape := ⟨2, ![64, 3]⟩
abbrev S3 : Shape := ⟨1, ![3]⟩
abbrev S64x20 : Shape := ⟨2, ![64, 20]⟩
abbrev S20 : Shape := ⟨1, ![20]⟩
abbrev S1x64 : Shape := ⟨2, ![1, 64]⟩
abbrev S_ : Shape := ⟨0, ![]⟩
abbrev S1x3 : Shape := ⟨2, ![1, 3]⟩
abbrev S100000x20 : Shape := ⟨2, ![100000, 20]⟩
abbrev S1x20 : Shape := ⟨2, ![1, 20]⟩
abbrev S100000x1 : Shape := ⟨2, ![100000, 1]⟩
abbrev S100000x1x1 : Shape := ⟨3, ![100000, 1, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 184
  | .vmem => 0
  | .smem => 0
  | _ => 0

abbrev hbmTy0_0 (i : Nat) : BufTy := match i % 128 with
  | 0 => ⟨S100000x64, .f32⟩
  | 1 => ⟨S100000x3, .f32⟩
  | 2 => ⟨S100000x3, .f32⟩
  | 3 => ⟨S100000, .i32⟩
  | 4 => ⟨S100000, .i32⟩
  | 5 => ⟨S64x64, .f32⟩
  | 6 => ⟨S64, .f32⟩
  | 7 => ⟨S64, .f32⟩
  | 8 => ⟨S64, .f32⟩
  | 9 => ⟨S64x3, .f32⟩
  | 10 => ⟨S3, .f32⟩
  | 11 => ⟨S64x20, .f32⟩
  | 12 => ⟨S20, .f32⟩
  | 13 => ⟨S100000x64, .f32⟩
  | 14 => ⟨S1x64, .f32⟩
  | 15 => ⟨S100000x64, .f32⟩
  | 16 => ⟨S100000x64, .f32⟩
  | 17 => ⟨S_, .f32⟩
  | 18 => ⟨S64, .f32⟩
  | 19 => ⟨S_, .f32⟩
  | 20 => ⟨S64, .f32⟩
  | 21 => ⟨S64, .f32⟩
  | 22 => ⟨S_, .i32⟩
  | 23 => ⟨S_, .f32⟩
  | 24 => ⟨S64, .f32⟩
  | 25 => ⟨S1x64, .f32⟩
  | 26 => ⟨S_, .f32⟩
  | 27 => ⟨S1x64, .f32⟩
  | 28 => ⟨S1x64, .f32⟩
  | 29 => ⟨S100000x64, .f32⟩
  | 30 => ⟨S100000x64, .f32⟩
  | 31 => ⟨S100000x64, .f32⟩
  | 32 => ⟨S_, .f32⟩
  | 33 => ⟨S_, .f32⟩
  | 34 => ⟨S_, .f32⟩
  | 35 => ⟨S_, .f32⟩
  | 36 => ⟨S64, .f32⟩
  | 37 => ⟨S64, .f32⟩
  | 38 => ⟨S64, .f32⟩
  | 39 => ⟨S_, .f32⟩
  | 40 => ⟨S_, .i1⟩
  | 41 => ⟨S_, .f32⟩
  | 42 => ⟨S_, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S_, .f32⟩
  | 49 => ⟨S64, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S100000x3, .f32⟩
  | 65 => ⟨S1x3, .f32⟩
  | 66 => ⟨S100000x3, .f32⟩
  | 67 => ⟨S100000x3, .f32⟩
  | 68 => ⟨S100000x20, .f32⟩
  | 69 => ⟨S1x20, .f32⟩
  | 70 => ⟨S100000x20, .f32⟩
  | 71 => ⟨S100000x20, .f32⟩
  | 72 => ⟨S_, .i32⟩
  | 73 => ⟨S100000, .i32⟩
  | 74 => ⟨S100000, .i1⟩
  | 75 => ⟨S100000, .f32⟩
  | 76 => ⟨S_, .i32⟩
  | 77 => ⟨S_, .i32⟩
  | 78 => ⟨S_, .i32⟩
  | 79 => ⟨S100000, .i32⟩
  | 80 => ⟨S100000, .i32⟩
  | 81 => ⟨S_, .i32⟩
  | 82 => ⟨S100000, .i32⟩
  | 83 => ⟨S100000, .i32⟩
  | 84 => ⟨S_, .f32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x20, .f32⟩
  | 91 => ⟨S100000x20, .f32⟩
  | 92 => ⟨S100000x20, .f32⟩
  | 93 => ⟨S_, .f32⟩
  | 94 => ⟨S100000, .f32⟩
  | 95 => ⟨S100000x1, .f32⟩
  | 96 => ⟨S100000x1, .f32⟩
  | 97 => ⟨S100000x20, .f32⟩
  | 98 => ⟨S100000x20, .f32⟩
  | 99 => ⟨S100000x1, .i32⟩
  | 100 => ⟨S_, .i32⟩
  | 101 => ⟨S100000x1, .i32⟩
  | 102 => ⟨S100000x1, .i1⟩
  | 103 => ⟨S_, .i32⟩
  | 104 => ⟨S100000x1, .i32⟩
  | 105 => ⟨S100000x1, .i32⟩
  | 106 => ⟨S100000x1, .i32⟩
  | 107 => ⟨S100000x1x1, .i32⟩
  | 108 => ⟨S1, .i32⟩
  | 109 => ⟨S_, .i32⟩
  | 110 => ⟨S100000x1x1, .i32⟩
  | 111 => ⟨S100000x1x1, .i1⟩
  | 112 => ⟨S1x1x1, .i32⟩
  | 113 => ⟨S100000x1x1, .i32⟩
  | 114 => ⟨S100000x1x1, .i1⟩
  | 115 => ⟨S100000x1x1, .i1⟩
  | 116 => ⟨S_, .i1⟩
  | 117 => ⟨S100000x1, .i1⟩
  | 118 => ⟨S100000x1, .f32⟩
  | 119 => ⟨S_, .f32⟩
  | 120 => ⟨S100000x1, .f32⟩
  | 121 => ⟨S100000x1, .f32⟩
  | 122 => ⟨S100000, .f32⟩
  | 123 => ⟨S100000, .f32⟩
  | 124 => ⟨S100000, .f32⟩
  | 125 => ⟨S_, .f32⟩
  | 126 => ⟨S_, .f32⟩
  | 127 => ⟨S_, .f32⟩
  | _ => ⟨S100000x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .i32⟩
  | 5 => ⟨S100000, .i32⟩
  | 6 => ⟨S100000, .i1⟩
  | 7 => ⟨S100000, .f32⟩
  | 8 => ⟨S100000x3, .f32⟩
  | 9 => ⟨S100000x3, .f32⟩
  | 10 => ⟨S100000x3, .f32⟩
  | 11 => ⟨S_, .f32⟩
  | 12 => ⟨S100000, .f32⟩
  | 13 => ⟨S100000, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S100000x3, .f32⟩
  | 22 => ⟨S_, .f32⟩
  | 23 => ⟨S100000, .f32⟩
  | 24 => ⟨S100000x1, .f32⟩
  | 25 => ⟨S100000x1, .f32⟩
  | 26 => ⟨S_, .f32⟩
  | 27 => ⟨S100000x1, .f32⟩
  | 28 => ⟨S100000x1, .f32⟩
  | 29 => ⟨S100000x3, .f32⟩
  | 30 => ⟨S100000x3, .f32⟩
  | 31 => ⟨S100000x3, .f32⟩
  | 32 => ⟨S_, .f32⟩
  | 33 => ⟨S100000, .f32⟩
  | 34 => ⟨S100000x1, .f32⟩
  | 35 => ⟨S100000x1, .f32⟩
  | 36 => ⟨S_, .f32⟩
  | 37 => ⟨S100000x1, .f32⟩
  | 38 => ⟨S100000x1, .f32⟩
  | 39 => ⟨S100000x3, .f32⟩
  | 40 => ⟨S100000x3, .f32⟩
  | 41 => ⟨S100000x3, .f32⟩
  | 42 => ⟨S_, .f32⟩
  | 43 => ⟨S100000, .f32⟩
  | 44 => ⟨S100000, .f32⟩
  | 45 => ⟨S100000, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S1x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_cst_3 : Ref sig .tc := ⟨.hbm, 39, rfl⟩
abbrev main_call0_v12 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_1 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_call1_cst : Ref sig .tc := ⟨.hbm, 61, rfl⟩
abbrev main_call1_v0 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_c_2 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_c_3 : Ref sig .tc := ⟨.hbm, 76, rfl⟩
abbrev main_c_4 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v35 : Ref sig .tc := ⟨.hbm, 83, rfl⟩
abbrev main_call3_cst : Ref sig .tc := ⟨.hbm, 84, rfl⟩
abbrev main_call3_v0 : Ref sig .tc := ⟨.hbm, 85, rfl⟩
abbrev main_call3_cst_0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_v6 : Ref sig .tc := ⟨.hbm, 92, rfl⟩
abbrev main_call3_cst_1 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_v36 : Ref sig .tc := ⟨.hbm, 98, rfl⟩
abbrev main_v37 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_c_1 : Ref sig .tc := ⟨.hbm, 108, rfl⟩
abbrev main_call4_c_2 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_3 : Ref sig .tc := ⟨.hbm, 116, rfl⟩
abbrev main_call4_v12 : Ref sig .tc := ⟨.hbm, 117, rfl⟩
abbrev main_call4_v13 : Ref sig .tc := ⟨.hbm, 118, rfl⟩
abbrev main_call4_cst : Ref sig .tc := ⟨.hbm, 119, rfl⟩
abbrev main_call4_v14 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_cst_5 : Ref sig .tc := ⟨.hbm, 125, rfl⟩
abbrev main_v42 : Ref sig .tc := ⟨.hbm, 126, rfl⟩
abbrev main_cst_6 : Ref sig .tc := ⟨.hbm, 127, rfl⟩
abbrev main_v43 : Ref sig .tc := ⟨.hbm, 128, rfl⟩
abbrev main_cst_7 : Ref sig .tc := ⟨.hbm, 129, rfl⟩
abbrev main_v44 : Ref sig .tc := ⟨.hbm, 130, rfl⟩
abbrev main_v45 : Ref sig .tc := ⟨.hbm, 131, rfl⟩
abbrev main_c_8 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_cst_9 : Ref sig .tc := ⟨.hbm, 139, rfl⟩
abbrev main_v52 : Ref sig .tc := ⟨.hbm, 140, rfl⟩
abbrev main_v53 : Ref sig .tc := ⟨.hbm, 141, rfl⟩
abbrev main_cst_10 : Ref sig .tc := ⟨.hbm, 142, rfl⟩
abbrev main_v54 : Ref sig .tc := ⟨.hbm, 143, rfl⟩
abbrev main_cst_11 : Ref sig .tc := ⟨.hbm, 144, rfl⟩
abbrev main_v55 : Ref sig .tc := ⟨.hbm, 145, rfl⟩
abbrev main_cst_12 : Ref sig .tc := ⟨.hbm, 146, rfl⟩
abbrev main_v56 : Ref sig .tc := ⟨.hbm, 147, rfl⟩
abbrev main_v57 : Ref sig .tc := ⟨.hbm, 148, rfl⟩
abbrev main_call5_v0 : Ref sig .tc := ⟨.hbm, 149, rfl⟩
abbrev main_call5_cst : Ref sig .tc := ⟨.hbm, 150, rfl⟩
abbrev main_call5_v1 : Ref sig .tc := ⟨.hbm, 151, rfl⟩
abbrev main_call5_v2 : Ref sig .tc := ⟨.hbm, 152, rfl⟩
abbrev main_v58 : Ref sig .tc := ⟨.hbm, 153, rfl⟩
abbrev main_cst_13 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_call6_v0 : Ref sig .tc := ⟨.hbm, 159, rfl⟩
abbrev main_call6_cst : Ref sig .tc := ⟨.hbm, 160, rfl⟩
abbrev main_call6_v1 : Ref sig .tc := ⟨.hbm, 161, rfl⟩
abbrev main_call6_v2 : Ref sig .tc := ⟨.hbm, 162, rfl⟩
abbrev main_v63 : Ref sig .tc := ⟨.hbm, 163, rfl⟩
abbrev main_cst_14 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_cst_15 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_cst_16 : Ref sig .tc := ⟨.hbm, 174, rfl⟩
abbrev main_v72 : Ref sig .tc := ⟨.hbm, 175, rfl⟩
abbrev main_cst_17 : Ref sig .tc := ⟨.hbm, 176, rfl⟩
abbrev main_v73 : Ref sig .tc := ⟨.hbm, 177, rfl⟩
abbrev main_cst_18 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩

abbrev nD : Nat := 1
abbrev τ : Topo := Topo.v7x

variable {F : FTy → Type} [FloatOps F]
-- ==== Proof.KernelIdeal.State.lean ====
/- What the fused kernel carries from one grid point to the next, and what each of its phases does to it. -/
module

public import proofs.«01_k».proof.Proof.Gen.KernelIdeal.Frame
public import proofs.«01_k».proof.Proof.Gen.KernelIdeal.Skeleton
public import Idealize.ShloMosaic.Lib.VecWindow
public import Idealize.ShloMosaic.Lib.ValueIdx

@[expose] public section

set_option maxRecDepth 16384

noncomputable section

namespace Cert.KernelIdeal.Fused

open Cert.KernelIdeal Cert.KernelIdeal.Gen
open Idealize.ShloMosaic Idealize.ShloMosaic.TcCoe Idealize.ShloMosaic.ValueIdx Idealize.SL Idealize.SL.Sem

variable {F : FTy → Type} [FloatOps F] [Named F]

/-- The blocks the body reads at a grid point, one per input window. -/
structure Blk (F : FTy → Type) where
  f : Vec F S10000x64 .f32
  aux : Vec F S1x8x10000 .f32
  W1 : Vec F S64x64 .f32
  Ws : Vec F S64x20 .f32
  bs : Vec F S20x1 .f32
  ga : Vec F S1x64 .f32
  be : Vec F S1x64 .f32
  b1 : Vec F S1x64 .f32
  W2 : Vec F S64x3 .f32
  b2 : Vec F S3x1 .f32

/-- The ten scratch buffers: the stored hidden layer, the two moments, the cross-entropy sum and count, the scale and
    shift of the normalisation, and the three sums of the second phase. -/
structure St (F : FTy → Type) where
  hT : Vec F S10x64x10000 .bf16
  G : Vec F S64x64 .f32
  s : Vec F S1x64 .f32
  ce : Vec F S1x1 .f32
  va : Vec F S1x1 .f32
  sc : Vec F S64x1 .bf16
  sh : Vec F S64x1 .bf16
  l1 : Vec F S1x1 .f32
  co : Vec F S1x1 .f32
  ma : Vec F S1x1 .f32

/-- Slab `j` of the stored hidden layer, as the one-slab vector a load of it gives. -/
def slab (h : Vec F S10x64x10000 .bf16) (j : Fin 10) : Vec F S1x64x10000 .bf16 :=
  fun y => h (ix3 j (y 1) (y 2))

/-- The hidden layer with slab `n` replaced. -/
def putSlab (h : Vec F S10x64x10000 .bf16) (n : ℕ) (v : Vec F S1x64x10000 .bf16) : Vec F S10x64x10000 .bf16 :=
  fun y => if (y 0).val = n then v (ix3 (0 : Fin 1) (y 1) (y 2)) else h y

/-- The first point clears the four accumulators of the first phase. -/
def reset (σ : St F) : St F := { σ with G := k0_pay1, s := k0_pay2, ce := k0_pay3, va := k0_pay4 }

/-- The constant the labels are compared with, minus one. -/
abbrev negOne : F .f32 := Scalar.ofBits .f32 0xBF800000#32

/-- The first phase at point `n`: the moments and the cross-entropy sums take in the block, and slab `n` of the hidden
    layer is stored. -/
def first (n : ℕ) (X : Blk F) (σ : St F) : St F :=
  { σ with
    hT := putSlab σ.hT n (k0_pay14 X.f X.W1)
    G := k0_pay12 X.f σ.G
    s := k0_pay13 X.f σ.s
    ce := k0_pay18 (k0_pay15 X.f X.Ws X.bs) (k0_pay16 X.aux) negOne σ.ce
    va := k0_pay5 (k0_pay19 (k0_pay16 X.aux) negOne σ.va) }

/-- Between the phases: the moments become the normalisation's scale and shift, and the sums of the second phase are
    cleared. -/
def stats (X : Blk F) (σ : St F) : St F :=
  { σ with
    sc := k0_pay25 X.W1 X.b1 σ.s σ.G X.ga
    sh := k0_pay6 (k0_pay24 X.W1 X.b1 σ.s σ.G X.ga X.be)
    l1 := k0_pay7, co := k0_pay8, ma := k0_pay9 }

/-- The second phase on slab `j`: the three sums take in the block. -/
def second (j : Fin 10) (X : Blk F) (σ : St F) : St F :=
  { σ with
    l1 := k0_pay33 (k0_pay29 X.aux) (k0_pay30 (slab σ.hT j) σ.sc σ.sh X.W2 X.b2 X.aux) σ.l1
    co := k0_pay34 (k0_pay28 X.aux) (k0_pay29 X.aux) (k0_pay31 (slab σ.hT j) σ.sc σ.sh X.W2 X.b2 X.aux)
      (k0_pay32 (slab σ.hT j) σ.sc σ.sh X.W2 X.b2) σ.co
    ma := k0_pay10 σ.ma (k0_pay35 (k0_pay29 X.aux)) }

/-- The number the last point stores. -/
def loss (σ : St F) : Vec F S1x1 .f32 := k0_pay11 σ.ma σ.ce σ.va σ.l1 σ.co

/-- Reading a slab of a vector at the closed form of its offsets. -/
theorem ld_slab (h : Vec F S10x64x10000 .bf16) (off : Fin 3 → ℕ) (j : Fin 10) (hoff : off = ![j.val, 0, 0])
    (inb : ∀ a, off a + S1x64x10000.size a ≤ S10x64x10000.size a) :
    View.ld h (Rect.unit (s := S10x64x10000) off S1x64x10000.size inb) = slab h j := by
  subst hoff
  funext y
  refine congrArg h (funext fun a => Fin.ext ?_)
  have h0 : (y 0).val < 1 := (y 0).isLt
  match a with
  | ⟨0, _⟩ => show j.val + 1 * (y 0).val = j.val; omega
  | ⟨1, _⟩ => show 0 + 1 * (y 1).val = (y 1).val; omega
  | ⟨2, _⟩ => show 0 + 1 * (y 2).val = (y 2).val; omega

/-- Putting a slab's window over a vector replaces that slab. -/
theorem put_slab (h : Vec F S10x64x10000 .bf16) (n : ℕ) (v : Vec F S1x64x10000 .bf16) :
    VecWindow.put h (![n, 0, 0] : Fin 3 → ℕ) S1x64x10000.size v = putSlab h n v := by
  funext y
  have h1 : (y 1).val < 64 := (y 1).isLt
  have h2 : (y 2).val < 10000 := (y 2).isLt
  by_cases hn : (y 0).val = n
  · have hm : ∀ a : Fin 3, (![n, 0, 0] : Fin 3 → ℕ) a ≤ (y a).val ∧ (y a).val < (![n, 0, 0] : Fin 3 → ℕ) a + S1x64x10000.size a := fun a => by
      match a with
      | ⟨0, _⟩ => show n ≤ (y 0).val ∧ (y 0).val < n + 1; omega
      | ⟨1, _⟩ => show 0 ≤ (y 1).val ∧ (y 1).val < 0 + 64; omega
      | ⟨2, _⟩ => show 0 ≤ (y 2).val ∧ (y 2).val < 0 + 10000; omega
    have e : VecWindow.put h (![n, 0, 0] : Fin 3 → ℕ) S1x64x10000.size v y = v (Rect.unitLocal (s := S10x64x10000) y hm) := dif_pos hm
    rw [e, putSlab, if_pos hn]
    refine congrArg v (funext fun a => Fin.ext ?_)
    match a with
    | ⟨0, _⟩ => show (y 0).val - n = 0; omega
    | ⟨1, _⟩ => show (y 1).val - 0 = (y 1).val; omega
    | ⟨2, _⟩ => show (y 2).val - 0 = (y 2).val; omega
  · have hm : ¬∀ a : Fin 3, (![n, 0, 0] : Fin 3 → ℕ) a ≤ (y a).val ∧ (y a).val < (![n, 0, 0] : Fin 3 → ℕ) a + S1x64x10000.size a := fun hm => by
      have : n ≤ (y 0).val ∧ (y 0).val < n + 1 := hm 0
      omega
    have e : VecWindow.put h (![n, 0, 0] : Fin 3 → ℕ) S1x64x10000.size v y = h y := dif_neg hm
    rw [e, putSlab, if_neg hn]

end Cert.KernelIdeal.Fused

end
-- ==== Proof.KernelIdeal.Steps.lean ====
/- What a grid point does to the scratch, and the scratch after a number of points: from the eleventh point on it no
   longer depends on what the scratch held at first. -/
module

public import proofs.«01_k».proof.Proof.KernelIdeal.State

@[expose] public section

set_option maxRecDepth 16384

noncomputable section

namespace Cert.KernelIdeal.Fused

open Cert.KernelIdeal Cert.KernelIdeal.Gen
open Idealize.ShloMosaic Idealize.ShloMosaic.TcCoe Idealize.ShloMosaic.ValueIdx Idealize.SL Idealize.SL.Sem

variable {F : FTy → Type} [FloatOps F] [Named F]

/-- The slab a point of the second phase reads. -/
def slabOf (n : ℕ) : Fin 10 := ⟨(n - 10) % 10, Nat.mod_lt _ (by decide)⟩

/-- One grid point's effect on the scratch. -/
def step (n : ℕ) (X : Blk F) (σ : St F) : St F :=
  if n = 0 then first n X (reset σ) else if n < 10 then first n X σ
  else if n = 10 then second (slabOf n) X (stats X σ) else second (slabOf n) X σ

/-- The scratch after the first `n` points, from contents `σ`. -/
def after (X : ℕ → Blk F) (σ : St F) : ℕ → St F
  | 0 => σ
  | n + 1 => step n (X n) (after X σ n)

/-- Some contents. -/
def someSt : St F :=
  { hT := fun _ => Scalar.ofBits .bf16 0#16, G := k0_pay1, s := k0_pay2, ce := k0_pay3, va := k0_pay4,
    sc := fun _ => Scalar.ofBits .bf16 0#16, sh := fun _ => Scalar.ofBits .bf16 0#16, l1 := k0_pay7, co := k0_pay8, ma := k0_pay9 }

/-- Between the first point and the eleventh the four accumulators and the slabs stored so far do not depend on the
    first contents. -/
theorem after_first (X : ℕ → Blk F) (σ σ' : St F) (n : ℕ) (h : n < 10) :
    (after X σ (n + 1)).G = (after X σ' (n + 1)).G ∧ (after X σ (n + 1)).s = (after X σ' (n + 1)).s
    ∧ (after X σ (n + 1)).ce = (after X σ' (n + 1)).ce ∧ (after X σ (n + 1)).va = (after X σ' (n + 1)).va
    ∧ ∀ y, (y 0).val < n + 1 → (after X σ (n + 1)).hT y = (after X σ' (n + 1)).hT y := by
  induction n with
  | zero =>
    refine ⟨rfl, rfl, rfl, rfl, fun y hy => ?_⟩
    have h0 : (y 0).val = 0 := by omega
    show putSlab _ 0 _ y = putSlab _ 0 _ y
    rw [putSlab, putSlab, if_pos h0, if_pos h0]
  | succ k ih =>
    obtain ⟨hG, hs, hc, hv, hh⟩ := ih (by omega)
    have e : ∀ τ : St F, after X τ (k + 1 + 1) = first (k + 1) (X (k + 1)) (after X τ (k + 1)) := fun τ => by
      show step (k + 1) (X (k + 1)) (after X τ (k + 1)) = _
      rw [step, if_neg (by omega), if_pos h]
    rw [e, e]
    refine ⟨?_, ?_, ?_, ?_, fun y hy => ?_⟩
    · show k0_pay12 _ _ = k0_pay12 _ _; rw [hG]
    · show k0_pay13 _ _ = k0_pay13 _ _; rw [hs]
    · show k0_pay18 _ _ _ _ = k0_pay18 _ _ _ _; rw [hc]
    · show k0_pay5 (k0_pay19 _ _ _) = k0_pay5 (k0_pay19 _ _ _); rw [hv]
    · show putSlab _ (k + 1) _ y = putSlab _ (k + 1) _ y
      rw [putSlab, putSlab]
      by_cases hk : (y 0).val = k + 1
      · rw [if_pos hk, if_pos hk]
      · rw [if_neg hk, if_neg hk]; exact hh y (by omega)

/-- From the eleventh point on the scratch does not depend on its first contents. -/
theorem after_indep (X : ℕ → Blk F) (σ σ' : St F) (n : ℕ) (h : 11 ≤ n) : after X σ n = after X σ' n := by
  induction n, h using Nat.le_induction with
  | base =>
    obtain ⟨hG, hs, hc, hv, hh⟩ := after_first X σ σ' 9 (by omega)
    have hT : (after X σ 10).hT = (after X σ' 10).hT := funext fun y => hh y (by have : (y 0).val < 10 := (y 0).isLt; omega)
    have e : ∀ τ : St F, after X τ 11 = second (slabOf 10) (X 10) (stats (X 10) (after X τ 10)) := fun τ => rfl
    rw [e, e]
    congr 1
    unfold stats
    rw [show (after X σ 10).G = (after X σ' 10).G from hG, show (after X σ 10).s = (after X σ' 10).s from hs,
      show (after X σ 10).ce = (after X σ' 10).ce from hc, show (after X σ 10).va = (after X σ' 10).va from hv, hT]
  | succ k hk ih =>
    show step k (X k) (after X σ k) = step k (X k) (after X σ' k)
    rw [ih]

end Cert.KernelIdeal.Fused

end
-- ==== Proof.KernelIdeal.Buffers.lean ====
/- What the five cases of the fused kernel's body have in common: the conditions, the buffers held at blocks and at a
   state, and what stores and loads of the buffers give. -/
module

public import proofs.«01_k».proof.Proof.KernelIdeal.State
public import Idealize.ShloMosaic.Lib.Tactic

@[expose] public section

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The condition of the reset, at grid coordinates. -/
abbrev isFirst (i : grid0.Coords) : Prop :=
  (Scalar.cmpi .ne (Scalar.extui (Scalar.cmpi .eq (BitVec.ofNat 32 (i 0).val) 0#32)) 0#32) = 1#1
/-- The condition of the statistics, at grid coordinates. -/
abbrev isMid (i : grid0.Coords) : Prop :=
  (Scalar.cmpi .ne (Scalar.extui (Scalar.cmpi .eq (BitVec.ofNat 32 (i 0).val) 10#32)) 0#32) = 1#1

/-- The second phase's offsets at coordinates of value `j + 10`. -/
theorem off2_eq (i : grid0.Coords) (j : Fin 10) (h : (i 0).val = j.val + 10) : k0_off2 i = ![j.val, 0, 0] := by
  revert i j; decide +kernel

/-- A whole buffer is held at a value exactly as its cells are held at the one contents that reads so. -/
theorem owns_eq (c : Dev nD) {sp : Space} {sh : Shape} {e : EltTy} {a : Memref sig .tc sp sh e} (h : a.IsWhole) (x : sh.Idx → Elt F e) :
    (owns (c : Thread nD τ) a fullShare x : sProp 𝕄) = iprop(a.view.loc (c : Thread nD τ) ↦[a.view.set]{fullShare} h.unread x) := by
  have there : (owns (c : Thread nD τ) a fullShare x : sProp 𝕄) ⊢ iprop(a.view.loc (c : Thread nD τ) ↦[a.view.set]{fullShare} h.unread x) := by
    unfold owns
    iintro ⟨%f, %hf, H⟩
    obtain rfl := h.eq_unread hf
    iexact H
  have back : iprop(a.view.loc (c : Thread nD τ) ↦[a.view.set]{fullShare} h.unread x) ⊢ (owns (c : Thread nD τ) a fullShare x : sProp 𝕄) := by
    unfold owns
    iintro H
    iexists _
    isplitr
    · ipureintro; exact h.read_unread x
    · iexact H
  exact equiv_iff.mp ⟨there, back⟩

/-- A buffer whose last store covers it holds that store's payload. -/
theorem writes_full {sp : Space} {sh : Shape} {e : EltTy} {a : Memref sig .tc sp sh e} (h : a.IsWhole) (f : a.view.ty.Contents (Elt F))
    {off : Fin sh.rank → ℕ} (inb : ∀ k, off k + sh.size k ≤ sh.size k) (w : (Rect.unit off sh.size inb).shape.Idx → Elt F e)
    (L : List (View.Piece (Elt F) sh e)) : a.view.writes (Elt F) f (⟨Rect.unit off sh.size inb, w⟩ :: L) = h.unread w :=
  h.eq_unread (View.read_writes_full a.view f inb w L)

/-- A covering load of a buffer reads what the buffer holds. -/
theorem readAt_whole {sp : Space} {sh : Shape} {e : EltTy} {a : Memref sig .tc sp sh e} (h : a.IsWhole) (x : sh.Idx → Elt F e)
    {off : Fin sh.rank → ℕ} (inb : ∀ k, off k + sh.size k ≤ sh.size k) :
    a.view.readAt (Elt F) (Rect.unit off sh.size inb).toLoadRect (h.unread x) = x := by
  rw [View.readAt_full, h.read_unread]

/-- The hidden layer's buffer after one slab is stored. -/
theorem writes_slab {a : Memref sig .tc .vmem S10x64x10000 .bf16} (h : a.IsWhole) (x : Vec F S10x64x10000 .bf16) (off : Fin 3 → ℕ) (n : ℕ)
    (inb : ∀ k, off k + S1x64x10000.size k ≤ S10x64x10000.size k) (w : Vec F S1x64x10000 .bf16) (hoff : off = ![n, 0, 0]) :
    a.view.writes (Elt F) (h.unread x) [⟨Rect.unit (s := S10x64x10000) off S1x64x10000.size inb, w⟩] = h.unread (putSlab x n w) := by
  refine h.eq_unread ?_
  rw [View.read_writes_cons_put a.view _ inb w [] hoff, View.writes_nil, h.read_unread]
  exact put_slab x n w

/-- A slab loaded from the hidden layer's buffer. -/
theorem readAt_slab {a : Memref sig .tc .vmem S10x64x10000 .bf16} (h : a.IsWhole) (x : Vec F S10x64x10000 .bf16) (off : Fin 3 → ℕ) (j : Fin 10)
    (inb : ∀ k, off k + S1x64x10000.size k ≤ S10x64x10000.size k) (hoff : off = ![j.val, 0, 0]) :
    a.view.readAt (Elt F) (Rect.unit (s := S10x64x10000) off S1x64x10000.size inb).toLoadRect (h.unread x) = slab x j := by
  rw [View.readAt_eq_ld, h.read_unread]
  exact ld_slab x off j hoff inb

section
variable (c : Dev nD) (i : grid0.Coords)
  (a1 : Memref sig .tc .vmem S10000x64 .f32) (h1 : a1.IsWhole) (a2 : Memref sig .tc .vmem S1x8x10000 .f32) (h2 : a2.IsWhole)
  (a3 : Memref sig .tc .vmem S64x64 .f32) (h3 : a3.IsWhole) (a4 : Memref sig .tc .vmem S64x20 .f32) (h4 : a4.IsWhole)
  (a5 : Memref sig .tc .vmem S20x1 .f32) (h5 : a5.IsWhole) (a6 : Memref sig .tc .vmem S1x64 .f32) (h6 : a6.IsWhole)
  (a7 : Memref sig .tc .vmem S1x64 .f32) (h7 : a7.IsWhole) (a8 : Memref sig .tc .vmem S1x64 .f32) (h8 : a8.IsWhole)
  (a9 : Memref sig .tc .vmem S64x3 .f32) (h9 : a9.IsWhole) (a10 : Memref sig .tc .vmem S3x1 .f32) (h10 : a10.IsWhole)
  (a11 : Memref sig .tc .vmem S1x1 .f32) (h11 : a11.IsWhole)
  (a12 : Memref sig .tc .vmem S10x64x10000 .bf16) (h12 : a12.IsWhole) (a13 : Memref sig .tc .vmem S64x64 .f32) (h13 : a13.IsWhole)
  (a14 : Memref sig .tc .vmem S1x64 .f32) (h14 : a14.IsWhole) (a15 : Memref sig .tc .vmem S1x1 .f32) (h15 : a15.IsWhole)
  (a16 : Memref sig .tc .vmem S1x1 .f32) (h16 : a16.IsWhole) (a17 : Memref sig .tc .vmem S64x1 .bf16) (h17 : a17.IsWhole)
  (a18 : Memref sig .tc .vmem S64x1 .bf16) (h18 : a18.IsWhole) (a19 : Memref sig .tc .vmem S1x1 .f32) (h19 : a19.IsWhole)
  (a20 : Memref sig .tc .vmem S1x1 .f32) (h20 : a20.IsWhole) (a21 : Memref sig .tc .vmem S1x1 .f32) (h21 : a21.IsWhole)

/-- The ten input buffers at the blocks `X`. -/
def ownIns (X : Blk F) : sProp 𝕄 :=
  iprop(owns (c : Thread nD τ) a1 fullShare X.f ∗ owns (c : Thread nD τ) a2 fullShare X.aux
    ∗ owns (c : Thread nD τ) a3 fullShare X.W1 ∗ owns (c : Thread nD τ) a4 fullShare X.Ws
    ∗ owns (c : Thread nD τ) a5 fullShare X.bs ∗ owns (c : Thread nD τ) a6 fullShare X.ga
    ∗ owns (c : Thread nD τ) a7 fullShare X.be ∗ owns (c : Thread nD τ) a8 fullShare X.b1
    ∗ owns (c : Thread nD τ) a9 fullShare X.W2 ∗ owns (c : Thread nD τ) a10 fullShare X.b2)

/-- The ten scratch buffers at the state `σ`. -/
def ownSt (σ : St F) : sProp 𝕄 :=
  iprop(owns (c : Thread nD τ) a12 fullShare σ.hT ∗ owns (c : Thread nD τ) a13 fullShare σ.G
    ∗ owns (c : Thread nD τ) a14 fullShare σ.s ∗ owns (c : Thread nD τ) a15 fullShare σ.ce
    ∗ owns (c : Thread nD τ) a16 fullShare σ.va ∗ owns (c : Thread nD τ) a17 fullShare σ.sc
    ∗ owns (c : Thread nD τ) a18 fullShare σ.sh ∗ owns (c : Thread nD τ) a19 fullShare σ.l1
    ∗ owns (c : Thread nD τ) a20 fullShare σ.co ∗ owns (c : Thread nD τ) a21 fullShare σ.ma)

end

end Cert.KernelIdeal.Fused

end
-- ==== Proof.KernelIdeal.RunsFirst.lean ====
/- The fused kernel's body run once in the two cases of the first phase: which phases a point runs is decided by the point, and
   each run leaves the scratch at the state the phases describe. -/
module

public import proofs.«01_k».proof.Proof.KernelIdeal.Buffers
public import Idealize.ShloMosaic.Lib.Tactic

@[expose] public section

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section
variable (c : Dev nD) (i : grid0.Coords)
  (a1 : Memref sig .tc .vmem S10000x64 .f32) (h1 : a1.IsWhole) (a2 : Memref sig .tc .vmem S1x8x10000 .f32) (h2 : a2.IsWhole)
  (a3 : Memref sig .tc .vmem S64x64 .f32) (h3 : a3.IsWhole) (a4 : Memref sig .tc .vmem S64x20 .f32) (h4 : a4.IsWhole)
  (a5 : Memref sig .tc .vmem S20x1 .f32) (h5 : a5.IsWhole) (a6 : Memref sig .tc .vmem S1x64 .f32) (h6 : a6.IsWhole)
  (a7 : Memref sig .tc .vmem S1x64 .f32) (h7 : a7.IsWhole) (a8 : Memref sig .tc .vmem S1x64 .f32) (h8 : a8.IsWhole)
  (a9 : Memref sig .tc .vmem S64x3 .f32) (h9 : a9.IsWhole) (a10 : Memref sig .tc .vmem S3x1 .f32) (h10 : a10.IsWhole)
  (a11 : Memref sig .tc .vmem S1x1 .f32) (h11 : a11.IsWhole)
  (a12 : Memref sig .tc .vmem S10x64x10000 .bf16) (h12 : a12.IsWhole) (a13 : Memref sig .tc .vmem S64x64 .f32) (h13 : a13.IsWhole)
  (a14 : Memref sig .tc .vmem S1x64 .f32) (h14 : a14.IsWhole) (a15 : Memref sig .tc .vmem S1x1 .f32) (h15 : a15.IsWhole)
  (a16 : Memref sig .tc .vmem S1x1 .f32) (h16 : a16.IsWhole) (a17 : Memref sig .tc .vmem S64x1 .bf16) (h17 : a17.IsWhole)
  (a18 : Memref sig .tc .vmem S64x1 .bf16) (h18 : a18.IsWhole) (a19 : Memref sig .tc .vmem S1x1 .f32) (h19 : a19.IsWhole)
  (a20 : Memref sig .tc .vmem S1x1 .f32) (h20 : a20.IsWhole) (a21 : Memref sig .tc .vmem S1x1 .f32) (h21 : a21.IsWhole)

set_option maxHeartbeats 3200000 in
/-- Point 0: the accumulators are cleared, then the first phase. -/
theorem run_reset (hA : isFirst i) (hB : k0_cond2 i = 1#1) (hC : ¬isMid i) (hD : ¬k0_cond4 i = 1#1) (hE : ¬k0_cond5 i = 1#1)
    (X : Blk F) (σ : St F) (E : Set ℕ) (K : PUnit → sProp 𝕄) :
    iprop(ownIns c a1 a2 a3 a4 a5 a6 a7 a8 a9 a10 X ∗ ownSt c a12 a13 a14 a15 a16 a17 a18 a19 a20 a21 σ
      ∗ (iprop(ownIns c a1 a2 a3 a4 a5 a6 a7 a8 a9 a10 X
          ∗ ownSt c a12 a13 a14 a15 a16 a17 a18 a19 a20 a21 (first (i 0).val X (reset σ))) -∗ K ⟨⟩))
      ⊢ wp frame (wpE (defs₀ (F := F)) Variants.none c none) E
        (cc0__fused i a1 h1 a2 h2 a3 h3 a4 h4 a5 h5 a6 h6 a7 h7 a8 h8 a9 h9 a10 h10 a11 h11 a12 h12 a13 h13 a14 h14 a15 h15
          a16 h16 a17 h17 a18 h18 a19 h19 a20 h20 a21 h21) K := by
  rw [cc0__fused_eq_skeleton]; unfold cc0__fused_skel
  rw [k0_part1_eq_skeleton, k0_part2_eq_skeleton]
  unfold ownIns ownSt
  simp only [owns_eq c h1, owns_eq c h2, owns_eq c h3, owns_eq c h4, owns_eq c h5, owns_eq c h6, owns_eq c h7, owns_eq c h8,
    owns_eq c h9, owns_eq c h10, owns_eq c h11, owns_eq c h12, owns_eq c h13, owns_eq c h14, owns_eq c h15, owns_eq c h16,
    owns_eq c h17, owns_eq c h18, owns_eq c h19, owns_eq c h20, owns_eq c h21]
  iintro ⟨⟨H0, H1, H2, H3, H4, H5, H6, H7, H8, H9⟩, ⟨S0, S1, S2, S3, S4, S5, S6, S7, S8, S9⟩, Hk⟩
  sl_exec (disch := first | sl_exact hA | sl_exact hB | sl_exact hC | sl_exact hD | sl_exact hE)
  sl_step
  iapply Hk
  sl_unfold_run_names
  have hoff := k0_off1_eq i
  simp only [writes_full h11, writes_full h13, writes_full h14, writes_full h15, writes_full h16, writes_full h17, writes_full h18, writes_full h19, writes_full h20, writes_full h21,
    writes_slab h12 _ _ _ _ _ hoff,
    readAt_whole h1, readAt_whole h2, readAt_whole h3, readAt_whole h4, readAt_whole h5, readAt_whole h6, readAt_whole h7, readAt_whole h8, readAt_whole h9, readAt_whole h10, readAt_whole h11,
    readAt_whole h13, readAt_whole h14, readAt_whole h15, readAt_whole h16, readAt_whole h17, readAt_whole h18, readAt_whole h19, readAt_whole h20, readAt_whole h21,
    View.readCov_full a13.view, View.readCov_full a14.view, View.readCov_full a15.view, View.readCov_full a16.view, View.readCov_full a17.view, View.readCov_full a18.view, View.readCov_full a19.view, View.readCov_full a20.view, View.readCov_full a21.view]

  dsimp only [first, reset]
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

set_option maxHeartbeats 3200000 in
/-- Points 1 to 9: the first phase alone. -/
theorem run_first (hA : ¬isFirst i) (hB : k0_cond2 i = 1#1) (hC : ¬isMid i) (hD : ¬k0_cond4 i = 1#1) (hE : ¬k0_cond5 i = 1#1)
    (X : Blk F) (σ : St F) (E : Set ℕ) (K : PUnit → sProp 𝕄) :
    iprop(ownIns c a1 a2 a3 a4 a5 a6 a7 a8 a9 a10 X ∗ ownSt c a12 a13 a14 a15 a16 a17 a18 a19 a20 a21 σ
      ∗ (iprop(ownIns c a1 a2 a3 a4 a5 a6 a7 a8 a9 a10 X
          ∗ ownSt c a12 a13 a14 a15 a16 a17 a18 a19 a20 a21 (first (i 0).val X σ)) -∗ K ⟨⟩))
      ⊢ wp frame (wpE (defs₀ (F := F)) Variants.none c none) E
        (cc0__fused i a1 h1 a2 h2 a3 h3 a4 h4 a5 h5 a6 h6 a7 h7 a8 h8 a9 h9 a10 h10 a11 h11 a12 h12 a13 h13 a14 h14 a15 h15
          a16 h16 a17 h17 a18 h18 a19 h19 a20 h20 a21 h21) K := by
  rw [cc0__fused_eq_skeleton]; unfold cc0__fused_skel
  rw [k0_part1_eq_skeleton, k0_part2_eq_skeleton]
  unfold ownIns ownSt
  simp only [owns_eq c h1, owns_eq c h2, owns_eq c h3, owns_eq c h4, owns_eq c h5, owns_eq c h6, owns_eq c h7, owns_eq c h8,
    owns_eq c h9, owns_eq c h10, owns_eq c h11, owns_eq c h12, owns_eq c h13, owns_eq c h14, owns_eq c h15, owns_eq c h16,
    owns_eq c h17, owns_eq c h18, owns_eq c h19, owns_eq c h20, owns_eq c h21]
  iintro ⟨⟨H0, H1, H2, H3, H4, H5, H6, H7, H8, H9⟩, ⟨S0, S1, S2, S3, S4, S5, S6, S7, S8, S9⟩, Hk⟩
  sl_exec (disch := first | sl_exact hA | sl_exact hB | sl_exact hC | sl_exact hD | sl_exact hE)
  sl_step
  iapply Hk
  sl_unfold_run_names
  have hoff := k0_off1_eq i
  simp only [writes_full h11, writes_full h13, writes_full h14, writes_full h15, writes_full h16, writes_full h17, writes_full h18, writes_full h19, writes_full h20, writes_full h21,
    writes_slab h12 _ _ _ _ _ hoff,
    readAt_whole h1, readAt_whole h2, readAt_whole h3, readAt_whole h4, readAt_whole h5, readAt_whole h6, readAt_whole h7, readAt_whole h8, readAt_whole h9, readAt_whole h10, readAt_whole h11,
    readAt_whole h13, readAt_whole h14, readAt_whole h15, readAt_whole h16, readAt_whole h17, readAt_whole h18, readAt_whole h19, readAt_whole h20, readAt_whole h21,
    View.readCov_full a13.view, View.readCov_full a14.view, View.readCov_full a15.view, View.readCov_full a16.view, View.readCov_full a17.view, View.readCov_full a18.view, View.readCov_full a19.view, View.readCov_full a20.view, View.readCov_full a21.view]

  dsimp only [first]
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

end

end Cert.KernelIdeal.Fused

end
-- ==== Proof.KernelIdeal.RunsSecond.lean ====
/- The fused kernel's body run once in the three cases of the second phase: which phases a point runs is decided by the point, and
   each run leaves the scratch at the state the phases describe. -/
module

public import proofs.«01_k».proof.Proof.KernelIdeal.Buffers
public import Idealize.ShloMosaic.Lib.Tactic

@[expose] public section

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section
variable (c : Dev nD) (i : grid0.Coords)
  (a1 : Memref sig .tc .vmem S10000x64 .f32) (h1 : a1.IsWhole) (a2 : Memref sig .tc .vmem S1x8x10000 .f32) (h2 : a2.IsWhole)
  (a3 : Memref sig .tc .vmem S64x64 .f32) (h3 : a3.IsWhole) (a4 : Memref sig .tc .vmem S64x20 .f32) (h4 : a4.IsWhole)
  (a5 : Memref sig .tc .vmem S20x1 .f32) (h5 : a5.IsWhole) (a6 : Memref sig .tc .vmem S1x64 .f32) (h6 : a6.IsWhole)
  (a7 : Memref sig .tc .vmem S1x64 .f32) (h7 : a7.IsWhole) (a8 : Memref sig .tc .vmem S1x64 .f32) (h8 : a8.IsWhole)
  (a9 : Memref sig .tc .vmem S64x3 .f32) (h9 : a9.IsWhole) (a10 : Memref sig .tc .vmem S3x1 .f32) (h10 : a10.IsWhole)
  (a11 : Memref sig .tc .vmem S1x1 .f32) (h11 : a11.IsWhole)
  (a12 : Memref sig .tc .vmem S10x64x10000 .bf16) (h12 : a12.IsWhole) (a13 : Memref sig .tc .vmem S64x64 .f32) (h13 : a13.IsWhole)
  (a14 : Memref sig .tc .vmem S1x64 .f32) (h14 : a14.IsWhole) (a15 : Memref sig .tc .vmem S1x1 .f32) (h15 : a15.IsWhole)
  (a16 : Memref sig .tc .vmem S1x1 .f32) (h16 : a16.IsWhole) (a17 : Memref sig .tc .vmem S64x1 .bf16) (h17 : a17.IsWhole)
  (a18 : Memref sig .tc .vmem S64x1 .bf16) (h18 : a18.IsWhole) (a19 : Memref sig .tc .vmem S1x1 .f32) (h19 : a19.IsWhole)
  (a20 : Memref sig .tc .vmem S1x1 .f32) (h20 : a20.IsWhole) (a21 : Memref sig .tc .vmem S1x1 .f32) (h21 : a21.IsWhole)

set_option maxHeartbeats 3200000 in
/-- Point 10: the statistics, then the second phase. -/
theorem run_stats (j : Fin 10) (hj : (i 0).val = j.val + 10) (hA : ¬isFirst i) (hB : ¬k0_cond2 i = 1#1) (hC : isMid i) (hD : k0_cond4 i = 1#1) (hE : ¬k0_cond5 i = 1#1)
    (X : Blk F) (σ : St F) (E : Set ℕ) (K : PUnit → sProp 𝕄) :
    iprop(ownIns c a1 a2 a3 a4 a5 a6 a7 a8 a9 a10 X ∗ ownSt c a12 a13 a14 a15 a16 a17 a18 a19 a20 a21 σ
      ∗ (iprop(ownIns c a1 a2 a3 a4 a5 a6 a7 a8 a9 a10 X
          ∗ ownSt c a12 a13 a14 a15 a16 a17 a18 a19 a20 a21 (second j X (stats X σ))) -∗ K ⟨⟩))
      ⊢ wp frame (wpE (defs₀ (F := F)) Variants.none c none) E
        (cc0__fused i a1 h1 a2 h2 a3 h3 a4 h4 a5 h5 a6 h6 a7 h7 a8 h8 a9 h9 a10 h10 a11 h11 a12 h12 a13 h13 a14 h14 a15 h15
          a16 h16 a17 h17 a18 h18 a19 h19 a20 h20 a21 h21) K := by
  rw [cc0__fused_eq_skeleton]; unfold cc0__fused_skel
  rw [k0_part3_eq_skeleton, k0_part4_eq_skeleton, k0_part5_eq_skeleton]
  unfold ownIns ownSt
  simp only [owns_eq c h1, owns_eq c h2, owns_eq c h3, owns_eq c h4, owns_eq c h5, owns_eq c h6, owns_eq c h7, owns_eq c h8,
    owns_eq c h9, owns_eq c h10, owns_eq c h11, owns_eq c h12, owns_eq c h13, owns_eq c h14, owns_eq c h15, owns_eq c h16,
    owns_eq c h17, owns_eq c h18, owns_eq c h19, owns_eq c h20, owns_eq c h21]
  iintro ⟨⟨H0, H1, H2, H3, H4, H5, H6, H7, H8, H9⟩, ⟨S0, S1, S2, S3, S4, S5, S6, S7, S8, S9⟩, Hk⟩
  sl_exec (disch := first | sl_exact hA | sl_exact hB | sl_exact hC | sl_exact hD | sl_exact hE)
  sl_step
  iapply Hk
  sl_unfold_run_names
  have hoff := off2_eq i j hj
  simp only [writes_full h11, writes_full h13, writes_full h14, writes_full h15, writes_full h16, writes_full h17, writes_full h18, writes_full h19, writes_full h20, writes_full h21,
    readAt_slab h12 _ _ j _ hoff,
    readAt_whole h1, readAt_whole h2, readAt_whole h3, readAt_whole h4, readAt_whole h5, readAt_whole h6, readAt_whole h7, readAt_whole h8, readAt_whole h9, readAt_whole h10, readAt_whole h11,
    readAt_whole h13, readAt_whole h14, readAt_whole h15, readAt_whole h16, readAt_whole h17, readAt_whole h18, readAt_whole h19, readAt_whole h20, readAt_whole h21,
    View.readCov_full a13.view, View.readCov_full a14.view, View.readCov_full a15.view, View.readCov_full a16.view, View.readCov_full a17.view, View.readCov_full a18.view, View.readCov_full a19.view, View.readCov_full a20.view, View.readCov_full a21.view]

  dsimp only [second, stats]
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

set_option maxHeartbeats 3200000 in
/-- Points 11 to 18: the second phase alone. -/
theorem run_second (j : Fin 10) (hj : (i 0).val = j.val + 10) (hA : ¬isFirst i) (hB : ¬k0_cond2 i = 1#1) (hC : ¬isMid i) (hD : k0_cond4 i = 1#1) (hE : ¬k0_cond5 i = 1#1)
    (X : Blk F) (σ : St F) (E : Set ℕ) (K : PUnit → sProp 𝕄) :
    iprop(ownIns c a1 a2 a3 a4 a5 a6 a7 a8 a9 a10 X ∗ ownSt c a12 a13 a14 a15 a16 a17 a18 a19 a20 a21 σ
      ∗ (iprop(ownIns c a1 a2 a3 a4 a5 a6 a7 a8 a9 a10 X
          ∗ ownSt c a12 a13 a14 a15 a16 a17 a18 a19 a20 a21 (second j X σ)) -∗ K ⟨⟩))
      ⊢ wp frame (wpE (defs₀ (F := F)) Variants.none c none) E
        (cc0__fused i a1 h1 a2 h2 a3 h3 a4 h4 a5 h5 a6 h6 a7 h7 a8 h8 a9 h9 a10 h10 a11 h11 a12 h12 a13 h13 a14 h14 a15 h15
          a16 h16 a17 h17 a18 h18 a19 h19 a20 h20 a21 h21) K := by
  rw [cc0__fused_eq_skeleton]; unfold cc0__fused_skel
  rw [k0_part4_eq_skeleton, k0_part5_eq_skeleton]
  unfold ownIns ownSt
  simp only [owns_eq c h1, owns_eq c h2, owns_eq c h3, owns_eq c h4, owns_eq c h5, owns_eq c h6, owns_eq c h7, owns_eq c h8,
    owns_eq c h9, owns_eq c h10, owns_eq c h11, owns_eq c h12, owns_eq c h13, owns_eq c h14, owns_eq c h15, owns_eq c h16,
    owns_eq c h17, owns_eq c h18, owns_eq c h19, owns_eq c h20, owns_eq c h21]
  iintro ⟨⟨H0, H1, H2, H3, H4, H5, H6, H7, H8, H9⟩, ⟨S0, S1, S2, S3, S4, S5, S6, S7, S8, S9⟩, Hk⟩
  sl_exec (disch := first | sl_exact hA | sl_exact hB | sl_exact hC | sl_exact hD | sl_exact hE)
  sl_step
  iapply Hk
  sl_unfold_run_names
  have hoff := off2_eq i j hj
  simp only [writes_full h11, writes_full h13, writes_full h14, writes_full h15, writes_full h16, writes_full h17, writes_full h18, writes_full h19, writes_full h20, writes_full h21,
    readAt_slab h12 _ _ j _ hoff,
    readAt_whole h1, readAt_whole h2, readAt_whole h3, readAt_whole h4, readAt_whole h5, readAt_whole h6, readAt_whole h7, readAt_whole h8, readAt_whole h9, readAt_whole h10, readAt_whole h11,
    readAt_whole h13, readAt_whole h14, readAt_whole h15, readAt_whole h16, readAt_whole h17, readAt_whole h18, readAt_whole h19, readAt_whole h20, readAt_whole h21,
    View.readCov_full a13.view, View.readCov_full a14.view, View.readCov_full a15.view, View.readCov_full a16.view, View.readCov_full a17.view, View.readCov_full a18.view, View.readCov_full a19.view, View.readCov_full a20.view, View.readCov_full a21.view]

  dsimp only [second]
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

set_option maxHeartbeats 3200000 in
/-- Point 19: the second phase, then the loss is stored. -/
theorem run_last (j : Fin 10) (hj : (i 0).val = j.val + 10) (hA : ¬isFirst i) (hB : ¬k0_cond2 i = 1#1) (hC : ¬isMid i) (hD : k0_cond4 i = 1#1) (hE : k0_cond5 i = 1#1)
    (X : Blk F) (σ : St F) (E : Set ℕ) (K : PUnit → sProp 𝕄) :
    iprop(ownIns c a1 a2 a3 a4 a5 a6 a7 a8 a9 a10 X ∗ ownSt c a12 a13 a14 a15 a16 a17 a18 a19 a20 a21 σ ∗ (∃ d, owns (c : Thread nD τ) a11 fullShare d)
      ∗ (iprop(ownIns c a1 a2 a3 a4 a5 a6 a7 a8 a9 a10 X
          ∗ ownSt c a12 a13 a14 a15 a16 a17 a18 a19 a20 a21 (second j X σ) ∗ owns (c : Thread nD τ) a11 fullShare (loss (second j X σ))) -∗ K ⟨⟩))
      ⊢ wp frame (wpE (defs₀ (F := F)) Variants.none c none) E
        (cc0__fused i a1 h1 a2 h2 a3 h3 a4 h4 a5 h5 a6 h6 a7 h7 a8 h8 a9 h9 a10 h10 a11 h11 a12 h12 a13 h13 a14 h14 a15 h15
          a16 h16 a17 h17 a18 h18 a19 h19 a20 h20 a21 h21) K := by
  rw [cc0__fused_eq_skeleton]; unfold cc0__fused_skel
  rw [k0_part4_eq_skeleton, k0_part5_eq_skeleton]
  unfold ownIns ownSt
  simp only [owns_eq c h1, owns_eq c h2, owns_eq c h3, owns_eq c h4, owns_eq c h5, owns_eq c h6, owns_eq c h7, owns_eq c h8,
    owns_eq c h9, owns_eq c h10, owns_eq c h11, owns_eq c h12, owns_eq c h13, owns_eq c h14, owns_eq c h15, owns_eq c h16,
    owns_eq c h17, owns_eq c h18, owns_eq c h19, owns_eq c h20, owns_eq c h21]
  iintro ⟨⟨H0, H1, H2, H3, H4, H5, H6, H7, H8, H9⟩, ⟨S0, S1, S2, S3, S4, S5, S6, S7, S8, S9⟩, ⟨%d, O⟩, Hk⟩
  sl_exec (disch := first | sl_exact hA | sl_exact hB | sl_exact hC | sl_exact hD | sl_exact hE)
  sl_step
  iapply Hk
  sl_unfold_run_names
  have hoff := off2_eq i j hj
  simp only [writes_full h11, writes_full h13, writes_full h14, writes_full h15, writes_full h16, writes_full h17, writes_full h18, writes_full h19, writes_full h20, writes_full h21,
    readAt_slab h12 _ _ j _ hoff,
    readAt_whole h1, readAt_whole h2, readAt_whole h3, readAt_whole h4, readAt_whole h5, readAt_whole h6, readAt_whole h7, readAt_whole h8, readAt_whole h9, readAt_whole h10, readAt_whole h11,
    readAt_whole h13, readAt_whole h14, readAt_whole h15, readAt_whole h16, readAt_whole h17, readAt_whole h18, readAt_whole h19, readAt_whole h20, readAt_whole h21,
    View.readCov_full a13.view, View.readCov_full a14.view, View.readCov_full a15.view, View.readCov_full a16.view, View.readCov_full a17.view, View.readCov_full a18.view, View.readCov_full a19.view, View.readCov_full a20.view, View.readCov_full a21.view]

  dsimp only [second, loss]
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitr [O]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  · iexact O

end

end Cert.KernelIdeal.Fused

end
-- ==== Proof.KernelIdeal.Frame.lean ====
/- The fused kernel's launch: the proof data, the body at every grid point, the run, and the frame. -/
module

public import proofs.«01_k».proof.Proof.KernelIdeal.Steps
public import proofs.«01_k».proof.Proof.KernelIdeal.RunsFirst
public import proofs.«01_k».proof.Proof.KernelIdeal.RunsSecond
public import proofs.«01_k».proof.Proof.Gen.KernelIdeal.Frame
public import Idealize.ShloMosaic.Lib.WordCmp
public import Idealize.ShloMosaic.Lib.Claim

@[expose] public section

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which phases a point runs -/

/-- A point's coordinate is its number. -/
theorem coord_eq (t : Fin cfg0.N) : (grid0.coords t 0).val = t.val := by
  have ht : t.val < 20 := Nat.lt_of_lt_of_eq t.isLt N_0
  have e0 : (grid0.coords t 0).val = t.val / 1 % 20 := Pipeline.Grid.coords_val t 0 (by decide) rfl
  rw [e0, Nat.div_one, Nat.mod_eq_of_lt ht]

/-- The first guard holds at point 0 only. -/
theorem first_iff (t : Fin cfg0.N) : isFirst (grid0.coords t) ↔ t.val = 0 := by
  have ht : t.val < 20 := Nat.lt_of_lt_of_eq t.isLt N_0
  simp only [isFirst, coord_eq]
  word_cmp

/-- The statistics' guard holds at point 10 only. -/
theorem mid_iff (t : Fin cfg0.N) : isMid (grid0.coords t) ↔ t.val = 10 := by
  have ht : t.val < 20 := Nat.lt_of_lt_of_eq t.isLt N_0
  simp only [isMid, coord_eq]
  word_cmp

/-- The first phase's guard holds at the first ten points. -/
theorem phase1_iff : ∀ t : Fin cfg0.N, k0_cond2 (grid0.coords t) = 1#1 ↔ t.val < 10 :=
  (by decide +kernel : ∀ t : Fin grid0.N, k0_cond2 (grid0.coords t) = 1#1 ↔ t.val < 10)

/-- The second phase's guard holds at the last ten points. -/
theorem phase2_iff : ∀ t : Fin cfg0.N, k0_cond4 (grid0.coords t) = 1#1 ↔ 10 ≤ t.val :=
  (by decide +kernel : ∀ t : Fin grid0.N, k0_cond4 (grid0.coords t) = 1#1 ↔ 10 ≤ t.val)

/-- The last guard holds at point 19 only. -/
theorem last_iff (t : Fin cfg0.N) : k0_cond5 (grid0.coords t) = 1#1 ↔ t.val = 19 := by
  have ht : t.val < 20 := Nat.lt_of_lt_of_eq t.isLt N_0
  simp only [k0_cond5, coord_eq]
  word_cmp

/-- Before the last point the result's window is idle and is not written back. -/
theorem out_idle : ∀ t : Fin cfg0.N, t.val ≠ 19 → cfg0.idle 10 (grid0.coords t) = true ∧ (cfg0.win 10).flush t = false :=
  (by decide +kernel : ∀ t : Fin cfg0.N, t.val ≠ 19 → cfg0.idle 10 (grid0.coords t) = true ∧ (cfg0.win 10).flush t = false)

/-- At the last point it is not idle. -/
theorem out_live : ∀ t : Fin cfg0.N, t.val = 19 → cfg0.idle 10 (grid0.coords t) = false :=
  (by decide +kernel : ∀ t : Fin cfg0.N, t.val = 19 → cfg0.idle 10 (grid0.coords t) = false)

/-! ## The proof data -/

/-- The blocks the body reads at a point. -/
def blkOf (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t⟩

/-- A point by its number. -/
def pt (n : ℕ) : Fin cfg0.N := ⟨n % 20, by have : cfg0.N = 20 := N_0; rw [this]; exact Nat.mod_lt _ (by decide)⟩

/-- The point of a point's number is the point. -/
theorem pt_val (t : Fin cfg0.N) : pt t.val = t :=
  Fin.ext (Nat.mod_eq_of_lt (Nat.lt_of_lt_of_eq t.isLt N_0))

/-- The blocks by the point's number. -/
def blks (c : Dev nD) (n : ℕ) : Blk F := blkOf m c (pt n)

/-- The scratch after `n` points, from contents `σ`. -/
def stAt (c : Dev nD) (n : ℕ) (σ : St F) : St F := after (blks m c) σ n

/-- The result: the loss of the scratch after the last point. -/
def result (c : Dev nD) : Vec F S1x1 .f32 := loss (stAt m c 20 someSt)

/-- The scratch held after a number of points, from some first contents, and the generator's register. -/
def inv (c : Dev nD) (n : ℕ) : sProp 𝕄 :=
  iprop((∃ σ : St F, ownSt c (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7) (Memref.whole cc0_scratch8)
    (Memref.whole cc0_scratch9) (stAt m c n σ)) ∗ ∃ r, prngReg c r)

/-- The proof data: every array as the region found it, each input left in place, the result's window at the result,
    the invariant `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => result m c
  Φ t := inv m c t.val
  q _ := fullShare
  owed _ := 0

/-- A window's array is the one that the launch found. -/
theorem A_eq (c : Dev nD) (w : Fin cfg0.W) : (dats m 0 c).A w = V m c (Pipeline.arrRef spec0 w) := by
  dsimp only [dats]

/-- Before a point, the scratch is as the steps before it left it. -/
theorem Phi_castSucc (c : Dev nD) (t : Fin cfg0.N) : (dats m 0 c).Φ t.castSucc = inv m c t.val := by
  dsimp only [dats]; rfl

/-- After a point, the scratch is as that point's step left it. -/
theorem Phi_succ (c : Dev nD) (t : Fin cfg0.N) : (dats m 0 c).Φ t.succ = inv m c (t.val + 1) := by
  dsimp only [dats]; rfl

/-- Window 0 ends a point with the block that it read. -/
theorem after_0 (c : Dev nD) (t : Fin cfg0.N) : (dats m 0 c).after 0 t = iblk m c 0 t := by dsimp only [dats]
/-- Window 1 ends a point with the block that it read. -/
theorem after_1 (c : Dev nD) (t : Fin cfg0.N) : (dats m 0 c).after 1 t = iblk m c 1 t := by dsimp only [dats]
/-- Window 2 ends a point with the block that it read. -/
theorem after_2 (c : Dev nD) (t : Fin cfg0.N) : (dats m 0 c).after 2 t = iblk m c 2 t := by dsimp only [dats]
/-- Window 3 ends a point with the block that it read. -/
theorem after_3 (c : Dev nD) (t : Fin cfg0.N) : (dats m 0 c).after 3 t = iblk m c 3 t := by dsimp only [dats]
/-- Window 4 ends a point with the block that it read. -/
theorem after_4 (c : Dev nD) (t : Fin cfg0.N) : (dats m 0 c).after 4 t = iblk m c 4 t := by dsimp only [dats]
/-- Window 5 ends a point with the block that it read. -/
theorem after_5 (c : Dev nD) (t : Fin cfg0.N) : (dats m 0 c).after 5 t = iblk m c 5 t := by dsimp only [dats]
/-- Window 6 ends a point with the block that it read. -/
theorem after_6 (c : Dev nD) (t : Fin cfg0.N) : (dats m 0 c).after 6 t = iblk m c 6 t := by dsimp only [dats]
/-- Window 7 ends a point with the block that it read. -/
theorem after_7 (c : Dev nD) (t : Fin cfg0.N) : (dats m 0 c).after 7 t = iblk m c 7 t := by dsimp only [dats]
/-- Window 8 ends a point with the block that it read. -/
theorem after_8 (c : Dev nD) (t : Fin cfg0.N) : (dats m 0 c).after 8 t = iblk m c 8 t := by dsimp only [dats]
/-- Window 9 ends a point with the block that it read. -/
theorem after_9 (c : Dev nD) (t : Fin cfg0.N) : (dats m 0 c).after 9 t = iblk m c 9 t := by dsimp only [dats]
/-- The result's window is to hold the result, which the last point writes. -/
theorem after_10 (c : Dev nD) (t : Fin cfg0.N) : (dats m 0 c).after 10 t = result m c := by dsimp only [dats]

/-- An input's window after a point: its buffer at its block. -/
theorem leaves_in (c : Dev nD) (w : Fin cfg0.W) (t : Fin cfg0.N) (hl : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from hl]

/-! ## The body at a point -/

/-- One point runs the phases its number says, whatever the scratch held at first. -/
theorem step_of_coords (c : Dev nD) (t : Fin cfg0.N) (σ : St F) : stAt m c (t.val + 1) σ = step t.val (blkOf m c t) (stAt m c t.val σ) := by
  show step t.val (blks m c t.val) (after (blks m c) σ t.val) = _
  rw [blks, pt_val]; rfl

/-- The ten input buffers of a point at the point's blocks. -/
def ins (c : Dev nD) (t : Fin cfg0.N) : sProp 𝕄 :=
  ownIns c (st0_0 t) (st0_1 t) (st0_2 t) (st0_3 t) (st0_4 t) (st0_5 t) (st0_6 t) (st0_7 t) (st0_8 t) (st0_9 t) (blkOf m c t)

/-- The scratch at a state. -/
def scr (c : Dev nD) (σ : St F) : sProp 𝕄 :=
  ownSt c (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7) (Memref.whole cc0_scratch8)
    (Memref.whole cc0_scratch9) σ

/-- The body at a point before the last. -/
theorem body_step (c : Dev nD) (t : Fin cfg0.N) (h : t.val ≠ 19) (σ : St F) (K : PUnit → sProp 𝕄) :
    iprop(ins m c t ∗ scr c σ ∗ (iprop(ins m c t ∗ scr c (step t.val (blkOf m c t) σ)) -∗ K ⟨⟩))
      ⊢ wp frame (wpE (defs₀ (F := F)) Variants.none c none) Set.univ (bodyAt0 t) K := by
  have ht : t.val < 20 := Nat.lt_of_lt_of_eq t.isLt N_0
  have hE : ¬k0_cond5 (grid0.coords t) = 1#1 := fun e => h ((last_iff t).mp e)
  unfold ins scr bodyAt0
  by_cases h0 : t.val = 0
  · have hst : step t.val (blkOf m c t) σ = first (grid0.coords t 0).val (blkOf m c t) (reset σ) := by rw [step, if_pos h0, coord_eq]
    rw [hst]
    exact run_reset c (grid0.coords t) _ _ _ _ _ _ _ _ _ _ _ _ _ _ _ _ _ _ _ _ _ _ _ _ _ _ _ _ _ _ _ _ _ _ _ _ _ _ _ _ _ _ ((first_iff t).mpr h0) ((phase1_iff t).mpr (by omega))
      (fun e => by have := (mid_iff t).mp e; omega) (fun e => by have := (phase2_iff t).mp e; omega) hE _ _ _ _
  · have hA : ¬isFirst (grid0.coords t) := fun e => h0 ((first_iff t).mp e)
    by_cases h1 : t.val < 10
    · have hst : step t.val (blkOf m c t) σ = first (grid0.coords t 0).val (blkOf m c t) σ := by rw [step, if_neg h0, if_pos h1, coord_eq]
      rw [hst]
      exact run_first c (grid0.coords t) _ _ _ _ _ _ _ _ _ _ _ _ _ _ _ _ _ _ _ _ _ _ _ _ _ _ _ _ _ _ _ _ _ _ _ _ _ _ _ _ _ _ hA ((phase1_iff t).mpr h1)
        (fun e => by have := (mid_iff t).mp e; omega) (fun e => by have := (phase2_iff t).mp e; omega) hE _ _ _ _
    · have hB : ¬k0_cond2 (grid0.coords t) = 1#1 := fun e => h1 ((phase1_iff t).mp e)
      have hj : (grid0.coords t 0).val = (slabOf t.val).val + 10 := by
        rw [coord_eq]; show t.val = (t.val - 10) % 10 + 10; omega
      by_cases h2 : t.val = 10
      · have hst : step t.val (blkOf m c t) σ = second (slabOf t.val) (blkOf m c t) (stats (blkOf m c t) σ) := by
          rw [step, if_neg h0, if_neg h1, if_pos h2]
        rw [hst]
        exact run_stats c (grid0.coords t) _ _ _ _ _ _ _ _ _ _ _ _ _ _ _ _ _ _ _ _ _ _ _ _ _ _ _ _ _ _ _ _ _ _ _ _ _ _ _ _ _ _ _ hj hA hB ((mid_iff t).mpr h2)
          ((phase2_iff t).mpr (by omega)) hE _ _ _ _
      · have hst : step t.val (blkOf m c t) σ = second (slabOf t.val) (blkOf m c t) σ := by
          rw [step, if_neg h0, if_neg h1, if_neg h2]
        rw [hst]
        exact run_second c (grid0.coords t) _ _ _ _ _ _ _ _ _ _ _ _ _ _ _ _ _ _ _ _ _ _ _ _ _ _ _ _ _ _ _ _ _ _ _ _ _ _ _ _ _ _ _ hj hA hB
          (fun e => h2 ((mid_iff t).mp e)) ((phase2_iff t).mpr (by omega)) hE _ _ _ _

/-- The body at the last point: the result's buffer ends at the loss. -/
theorem body_last (c : Dev nD) (t : Fin cfg0.N) (h : t.val = 19) (σ : St F) (K : PUnit → sProp 𝕄) :
    iprop(ins m c t ∗ scr c σ ∗ (∃ d, owns (c : Thread nD τ) (st0_10 t) fullShare d)
      ∗ (iprop(ins m c t ∗ scr c (step t.val (blkOf m c t) σ)
        ∗ owns (c : Thread nD τ) (st0_10 t) fullShare (loss (step t.val (blkOf m c t) σ))) -∗ K ⟨⟩))
      ⊢ wp frame (wpE (defs₀ (F := F)) Variants.none c none) Set.univ (bodyAt0 t) K := by
  have hj : (grid0.coords t 0).val = (slabOf t.val).val + 10 := by
    rw [coord_eq]; show t.val = (t.val - 10) % 10 + 10; omega
  have hst : step t.val (blkOf m c t) σ = second (slabOf t.val) (blkOf m c t) σ := by
    rw [step, if_neg (by omega), if_neg (by omega), if_neg (by omega)]
  unfold ins scr bodyAt0
  rw [hst]
  exact run_last c (grid0.coords t) _ _ _ _ _ _ _ _ _ _ _ _ _ _ _ _ _ _ _ _ _ _ _ _ _ _ _ _ _ _ _ _ _ _ _ _ _ _ _ _ _ _ _ hj
    (fun e => by have := (first_iff t).mp e; omega) (fun e => by have := (phase1_iff t).mp e; omega)
    (fun e => by have := (mid_iff t).mp e; omega) ((phase2_iff t).mpr (by omega)) ((last_iff t).mpr h) _ _ _ _

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t ∗ (dats m 0 c).leavesExact 10 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl, Phi_castSucc, Phi_succ]
  simp only [before0_0_of m (dats m 0 c) (A_eq m c 0) (after_0 m c) t, before0_1_of m (dats m 0 c) (A_eq m c 1) (after_1 m c) t,
    before0_2_of m (dats m 0 c) (A_eq m c 2) (after_2 m c) t, before0_3_of m (dats m 0 c) (A_eq m c 3) (after_3 m c) t,
    before0_4_of m (dats m 0 c) (A_eq m c 4) (after_4 m c) t, before0_5_of m (dats m 0 c) (A_eq m c 5) (after_5 m c) t,
    before0_6_of m (dats m 0 c) (A_eq m c 6) (after_6 m c) t, before0_7_of m (dats m 0 c) (A_eq m c 7) (after_7 m c) t,
    before0_8_of m (dats m 0 c) (A_eq m c 8) (after_8 m c) t, before0_9_of m (dats m 0 c) (A_eq m c 9) (after_9 m c) t]
  rw [leaves_in m c 0 t rfl, leaves_in m c 1 t rfl, leaves_in m c 2 t rfl, leaves_in m c 3 t rfl, leaves_in m c 4 t rfl,
    leaves_in m c 5 t rfl, leaves_in m c 6 t rfl, leaves_in m c 7 t rfl, leaves_in m c 8 t rfl, leaves_in m c 9 t rfl,
    after_0, after_1, after_2, after_3, after_4, after_5, after_6, after_7, after_8, after_9]
  unfold inv
  by_cases h : t.val = 19
  · rw [leaves_in m c 10 t (out_live t h), after_10]
    iintro ⟨⟨⟨%σ, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_last m c t h (stAt m c t.val σ) _)
    unfold ins scr ownIns
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS]; · iexact HS
    isplitl [H10]; · iexists _; iexact H10
    rw [← step_of_coords m c t σ]
    have e : loss (stAt m c (t.val + 1) σ) = result m c := by
      unfold result stAt; rw [h, after_indep (blks m c) σ someSt 20 (by decide)]
    rw [e]
    iintro ⟨⟨H0, H1, H2, H3, H4, H5, H6, H7, H8, H9⟩, HS, H10⟩
    isplitl [HS Hg]
    · isplitl [HS]; · iexists _; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Dat.leavesExact_idle (dats m 0 c) 10 t (out_idle t h).1 (out_idle t h).2]
    iintro ⟨⟨⟨%σ, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (body_step m c t h (stAt m c t.val σ) _)
    unfold ins scr ownIns
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS]; · iexact HS
    rw [← step_of_coords m c t σ]
    iintro ⟨⟨H0, H1, H2, H3, H4, H5, H6, H7, H8, H9⟩, HS⟩
    isplitl [HS Hg]
    · isplitl [HS]; · iexists _; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-! ## The launch -/

/-- The body the pipeline calls at a point. -/
theorem defs_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- The scratch as the region finds and leaves it: each buffer at anything. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d) ∗ (∃ d, owns (c : Thread nD τ) (Memref.whole cc0_scratch5) fullShare d)
        ∗ (∃ d, owns (c : Thread nD τ) (Memref.whole cc0_scratch6) fullShare d) ∗ (∃ d, owns (c : Thread nD τ) (Memref.whole cc0_scratch7) fullShare d)
        ∗ (∃ d, owns (c : Thread nD τ) (Memref.whole cc0_scratch8) fullShare d) ∗ (∃ d, owns (c : Thread nD τ) (Memref.whole cc0_scratch9) fullShare d))
        ∗ (∃ r, prngReg c r)) := by
  unfold Pipeline.ΦA; rw [scopedRest0_eq]; simp only [owns_whole]; try rfl

/-- What the launch hands over is the invariant before the first point. -/
theorem hin (c : Dev nD) : Pipeline.ΦA spec0 c ⊢ (dats m 0 c).Φ 0 := by
  rw [show (dats m 0 c).Φ 0 = inv m c 0 from by dsimp only [dats]; rfl, scratch_eq]
  unfold inv ownSt
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩, Hg⟩
  isplitl [H0 H1 H2 H3 H4 H5 H6 H7 H8 H9]
  · iexists (St.mk d0 d1 d2 d3 d4 d5 d6 d7 d8 d9)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg

/-- After the last point the contents are forgotten. -/
theorem hout (c : Dev nD) : (dats m 0 c).Φ (Fin.last cfg0.N) ⊢ Pipeline.ΦA spec0 c := by
  rw [show (dats m 0 c).Φ (Fin.last cfg0.N) = inv m c (Fin.last cfg0.N).val from by dsimp only [dats], scratch_eq]
  unfold inv ownSt
  iintro ⟨⟨%σ, H0, H1, H2, H3, H4, H5, H6, H7, H8, H9⟩, Hg⟩
  isplitl [H0 H1 H2 H3 H4 H5 H6 H7 H8 H9]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9
  iexact Hg

set_option backward.isDefEq.respectTransparency.types false in
/-- The launch runs, every array ends at what the proof data says, and every counter ends at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_post : θ_run defs (onTc (τ := τ) (main (F := F))) (s₀ m ρ) (Pipeline.FramePost cfgs (dats m) 0 (V m)) :=
  (θ_run defs _ _).mono (fun _ h => h.1) (run_quiescent m ρ)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_post m ρ)) ((θ_run defs _ _).mono (fun _ h => h.2) (run_quiescent m ρ))

end Cert.KernelIdeal.Fused

end
-- ==== Proof.KernelIdeal.Result.lean ====
/- The fused kernel's result array after the run. -/
module

public import proofs.«01_k».proof.Proof.KernelIdeal.Frame
public import Idealize.ShloMosaic.Lib.Pipeline.Value

@[expose] public section

set_option maxRecDepth 16384

noncomputable section

namespace Cert.KernelIdeal.Fused

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The result as the array's contents. -/
abbrev resultBuf (c : Dev nD) : Buf (Elt F) ((c : Thread nD τ).loc main_v12) := result m c

/-- The last point. -/
def lastPt : Fin cfg0.N := pt 19

/-- The last point's number is 19. -/
theorem lastPt_val : lastPt.val = 19 := rfl

/-- A point that writes the result back writes the whole of it. -/
theorem flushed_result (c : Dev nD) (t : Fin cfg0.N) (hf : (cfg0.win 10).flush t = true) :
    (dats m 0 c).flushed 10 t = ((cfg0.win 10).blk t).view.read (Elt F) (resultBuf m c) := by
  have h : t.val = 19 := by
    have := (flush0_10 t).mp hf; have := Nat.lt_of_lt_of_eq t.isLt N_0; omega
  obtain rfl : t = lastPt := Fin.ext (h.trans lastPt_val.symm)
  show (cfg0.win 10).cut (grid0.coords lastPt) ((dats m 0 c).after 10 lastPt) = _
  rw [after_10]
  have hz : (fun a => win0_10.index lastPt a * main_v12.ty.shape.size a) = fun _ => 0 := funext fun a => by fin_cases a <;> decide
  exact (Memref.read_access_unit_zero (Elt F) main_v12 hz (fun a => by rw [congrFun hz a]; simp) (resultBuf m c)).symm

/-- The result array ends at the result. -/
theorem final_result (c : Dev nD) : (dats m 0 c).arrAt 10 cfg0.N = resultBuf m c :=
  (dats m 0 c).arrAt_eq_of_cover 10 (resultBuf m c) (flushed_result m c) fun i =>
    ⟨lastPt, (flush0_10 lastPt).mpr rfl, by
      show i ∈ ((View.whole main_v12).slice (win0_10.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_10.index lastPt 0 * win0_10.size 0 ≤ (i 0 : Nat) ∧ (i 0 : Nat) < win0_10.index lastPt 0 * win0_10.size 0 + win0_10.xsize (grid0.coords lastPt) 0
                  rw [show win0_10.index lastPt 0 * win0_10.size 0 = 0 from by decide +kernel, show win0_10.xsize (grid0.coords lastPt) 0 = 1 from by decide +kernel]; omega
      | ⟨1, _⟩ => show win0_10.index lastPt 1 * win0_10.size 1 ≤ (i 1 : Nat) ∧ (i 1 : Nat) < win0_10.index lastPt 1 * win0_10.size 1 + win0_10.xsize (grid0.coords lastPt) 1
                  rw [show win0_10.index lastPt 1 * win0_10.size 1 = 0 from by decide +kernel, show win0_10.xsize (grid0.coords lastPt) 1 = 1 from by decide +kernel]; omega⟩

/-- The run leaves the result array at the result. -/
theorem run_result : θ_run defs (onTc (τ := τ) (main (F := F))) ⟨m, fun _ => 0, ρ⟩
    fun r => ∀ c : Dev nD, r.2.mem ((c : Thread nD τ).loc main_v12) = resultBuf m c :=
  (θ_run defs _ _).mono (fun r h c => ((h c).1 10).trans (final_result m c)) (run_post m ρ)

end Cert.KernelIdeal.Fused

end
-- ==== Proof.Values.Payloads.lean ====
/- The kernel's block computations over the extended reals, read at an element. -/
module

public import proofs.«01_k».proof.Proof.KernelIdeal.Steps
public import Idealize.ShloMosaic.Lib.Pointwise
public import Idealize.ShloMosaic.Lib.Pointwise.IndexBridge

@[expose] public section

set_option maxRecDepth 16384

noncomputable section

namespace Cert.KernelIdeal.Fused

open Cert.KernelIdeal Cert.KernelIdeal.Gen
open Idealize.ShloMosaic Idealize.SL.Sem

/-- One where the two numbers differ, zero where they don't. -/
def neInd (x y : EReal) : EReal := if x = y then 0 else 1

/-- One where the two numbers are equal, zero where they aren't. -/
def eqInd (x y : EReal) : EReal := if x = y then 1 else 0

/-- The indicator as the kernel spells it. -/
theorem neInd_spelt (x y : EReal) :
    ((((BitVec.ofBool (decide (x ≠ y))).setWidth 32).toInt : ℝ) : EReal) = neInd x y := by
  unfold neInd
  by_cases h : x = y <;> simp [h]

/-- An equality bit, widened and read as a number, is the indicator of equality. -/
theorem eqInd_spelt (x y : EReal) :
    ((((BitVec.ofBool (decide (x = y))).setWidth 32).toInt : ℝ) : EReal) = eqInd x y := by
  unfold eqInd
  by_cases h : x = y <;> simp [h]

/-- The Gram matrix takes in the block's products of columns. -/
theorem gram_apply (f : Vec Ideal S10000x64 .f32) (G : Vec Ideal S64x64 .f32) (a b : Fin 64) :
    k0_pay12 f G (ix2 a b) = G (ix2 a b) + ∑ q : Fin 10000, f (ix2 q a) * f (ix2 q b) := by
  pointwise [k0_pay12]

/-- The column sums take in the block's. -/
theorem colsum_apply (f : Vec Ideal S10000x64 .f32) (s : Vec Ideal S1x64 .f32) (b : Fin 64) :
    k0_pay13 f s (ix2 0 b) = s (ix2 0 b) + ∑ q : Fin 10000, f (ix2 q b) := by
  pointwise [k0_pay13]

/-- The stored hidden layer is the product of the weights with the block. -/
theorem hidden_apply (f : Vec Ideal S10000x64 .f32) (W : Vec Ideal S64x64 .f32) (c : Fin 64) (q : Fin 10000) :
    k0_pay14 f W (ix3 0 c q) = ∑ k : Fin 64, W (ix2 k c) * f (ix2 q k) := by
  pointwise [k0_pay14]

/-- The class scores. -/
theorem scores_apply (f : Vec Ideal S10000x64 .f32) (W : Vec Ideal S64x20 .f32) (b : Vec Ideal S20x1 .f32) (c : Fin 20) (q : Fin 10000) :
    k0_pay15 f W b (ix2 c q) = (∑ k : Fin 64, W (ix2 k c) * f (ix2 q k)) + b (ix2 c 0) := by
  pointwise [k0_pay15]

/-- The labels' row. -/
theorem label_apply (x : Vec Ideal S1x8x10000 .f32) (q : Fin 10000) : k0_pay16 x (ix2 0 q) = x (ix3 0 6 q) := by
  pointwise [k0_pay16]

/-- The valid points' indicator. -/
theorem valid_apply (x : Vec Ideal S1x10000 .f32) (y : Ideal .f32) (q : Fin 10000) : k0_pay17 x y (ix2 0 q) = neInd (x (ix2 0 q)) y := by
  pointwise [k0_pay17]
  exact neInd_spelt _ _

/-- The masked points' indicator. -/
theorem mask_apply (x : Vec Ideal S1x8x10000 .f32) (q : Fin 10000) :
    k0_pay29 x (ix2 0 q) = neInd (x (ix3 0 7 q)) (negOne (F := Ideal)) := by
  pointwise [k0_pay29, k0_pay27]
  exact neInd_spelt _ _

/-- The point's displacement to its centre. -/
theorem shift_apply (x : Vec Ideal S1x8x10000 .f32) (d : Fin 3) (q : Fin 10000) :
    k0_pay28 x (ix2 d q) = x (ix3 0 ⟨3 + d.val, by omega⟩ q) - x (ix3 0 ⟨d.val, by omega⟩ q) := by
  pointwise [k0_pay28, k0_pay27]

/-- The number of valid points takes in the block's. -/
theorem count_apply (s : FVec Ideal S1x10000 .f32) (acc : Vec Ideal S1x1 .f32) :
    k0_pay5 (k0_pay19 s negOne acc) (ix2 0 0) = acc (ix2 0 0) + ∑ q : Fin 10000, neInd (s (ix2 0 q)) (negOne (F := Ideal)) := by
  pointwise [k0_pay5, k0_pay19, k0_pay17]
  simp only [Finset.univ_unique, Finset.sum_singleton]
  refine congrArg (acc (ix2 0 0) + ·) (Finset.sum_congr rfl fun q _ => ?_)
  exact neInd_spelt _ _

/-- The predicted displacement. -/
theorem pred_apply (h : Vec Ideal S1x64x10000 .bf16) (sc sh : Vec Ideal S64x1 .bf16) (W : Vec Ideal S64x3 .f32) (b : Vec Ideal S3x1 .f32)
    (d : Fin 3) (q : Fin 10000) :
    k0_pay26 h sc sh W b (ix2 d q)
      = (∑ c : Fin 64, W (ix2 c d) * max (h (ix3 0 c q) * sc (ix2 c 0) + sh (ix2 c 0)) 0) + b (ix2 d 0) := by
  pointwise [k0_pay26]

/-- The distance sum takes in the block's rows. -/
theorem dist_apply (h : Vec Ideal S1x64x10000 .bf16) (sc sh : Vec Ideal S64x1 .bf16) (W : Vec Ideal S64x3 .f32) (b : Vec Ideal S3x1 .f32)
    (x : Vec Ideal S1x8x10000 .f32) (k : FVec Ideal S1x10000 .f32) (acc : Vec Ideal S1x1 .f32) :
    k0_pay33 k (k0_pay30 h sc sh W b x) acc (ix2 0 0)
      = acc (ix2 0 0) + ∑ q : Fin 10000,
        (∑ d : Fin 3, max (k0_pay26 h sc sh W b (ix2 d q) - k0_pay28 x (ix2 d q)) (-(k0_pay26 h sc sh W b (ix2 d q) - k0_pay28 x (ix2 d q))))
          * k (ix2 0 q) := by
  pointwise [k0_pay33, k0_pay30]
  simp only [Finset.univ_unique, Finset.sum_singleton, Ideal.absf_def]

/-- A row's negated cosine: the products' sum over the product of the two lengths. -/
def cosRow (p g : Fin 3 → EReal) : EReal :=
  Ideal.div (0 - ∑ d, p d * g d)
    ((Ideal.sqrt (∑ d, p d * p d) + Ideal.ofBits .f32 0x322BCC77#32) * (Ideal.sqrt (∑ d, g d * g d) + Ideal.ofBits .f32 0x322BCC77#32))

/-- The cosine sum takes in the block's rows. -/
theorem cos_apply (h : Vec Ideal S1x64x10000 .bf16) (sc sh : Vec Ideal S64x1 .bf16) (W : Vec Ideal S64x3 .f32) (b : Vec Ideal S3x1 .f32)
    (x : Vec Ideal S1x8x10000 .f32) (k : FVec Ideal S1x10000 .f32) (acc : Vec Ideal S1x1 .f32) :
    k0_pay34 (k0_pay28 x) k (k0_pay31 h sc sh W b x) (k0_pay32 h sc sh W b) acc (ix2 0 0)
      = acc (ix2 0 0) + ∑ q : Fin 10000,
        cosRow (fun d => k0_pay26 h sc sh W b (ix2 d q)) (fun d => k0_pay28 x (ix2 d q)) * k (ix2 0 q) := by
  pointwise [k0_pay34, k0_pay31, k0_pay32, cosRow]
  simp only [Finset.univ_unique, Finset.sum_singleton]

/-- The number of masked points takes in the block's. -/
theorem masked_apply (k : FVec Ideal S1x10000 .f32) (acc : Vec Ideal S1x1 .f32) :
    k0_pay10 acc (k0_pay35 k) (ix2 0 0) = acc (ix2 0 0) + ∑ q : Fin 10000, k (ix2 0 q) := by
  pointwise [k0_pay10, k0_pay35]
  simp only [Finset.univ_unique, Finset.sum_singleton]

/-- The last combination of the five sums. -/
theorem final_apply (ma ce va l1 co : Vec Ideal S1x1 .f32) :
    k0_pay11 ma ce va l1 co (ix2 0 0)
      = Ideal.div (ce (ix2 0 0)) (va (ix2 0 0) + Ideal.ofBits .f32 0x322BCC77#32)
        + Ideal.div (l1 (ix2 0 0) + co (ix2 0 0)) (ma (ix2 0 0) + Ideal.ofBits .f32 0x322BCC77#32) := by
  pointwise [k0_pay11]

end Cert.KernelIdeal.Fused

end
-- ==== Proof.Values.CrossEntropy.lean ====
/- The kernel's cross-entropy sum over the extended reals, read at its element. -/
module

public import proofs.«01_k».proof.Proof.Values.Payloads

@[expose] public section

set_option maxRecDepth 16384

noncomputable section

namespace Cert.KernelIdeal.Fused

open Cert.KernelIdeal Cert.KernelIdeal.Gen
open Idealize.ShloMosaic Idealize.SL.Sem

/-- The greatest score, from the least number up. -/
def topScore (x : Fin 20 → EReal) : EReal := Finset.univ.fold max (Ideal.ofBits .f32 0xFF800000#32 : EReal) x

/-- The label, brought into the classes' range. -/
def clampLabel (s : EReal) : EReal := min (Ideal.ofBits .f32 0x41980000#32 : EReal) (max 0 s)

/-- The class's own number. -/
def classNo (c : Fin 20) : EReal := (((BitVec.ofNat 32 c.val).toInt : ℝ) : EReal)

/-- A row's cross entropy: the log of the sum of exponentials less the label's score, where the label is valid. -/
def ceRow (x : Fin 20 → EReal) (s : EReal) : EReal :=
  (topScore x + Ideal.log (∑ c, Ideal.exp (x c - topScore x)) - ∑ c : Fin 20, x c * eqInd (clampLabel s) (classNo c))
    * neInd s (negOne (F := Ideal))

/-- The cross-entropy sum takes in the block's rows. -/
theorem ce_apply (L : FVec Ideal S20x10000 .f32) (s : FVec Ideal S1x10000 .f32) (acc : Vec Ideal S1x1 .f32) :
    k0_pay18 L s negOne acc (ix2 0 0) = acc (ix2 0 0) + ∑ q : Fin 10000, ceRow (fun c => L (ix2 c q)) (s (ix2 0 q)) := by
  pointwise [k0_pay18, k0_pay17]
  simp only [Finset.univ_unique, Finset.sum_singleton]
  refine congrArg (acc (ix2 0 0) + ·) (Finset.sum_congr rfl fun q _ => ?_)
  unfold ceRow
  rw [← neInd_spelt]
  simp only [← eqInd_spelt]
  rfl

end Cert.KernelIdeal.Fused

end
-- ==== Proof.Values.Statistics.lean ====
/- The kernel's batch statistics over the extended reals, read at an element. -/
module

public import proofs.«01_k».proof.Proof.Values.Payloads

@[expose] public section

set_option maxRecDepth 16384

noncomputable section

namespace Cert.KernelIdeal.Fused

open Cert.KernelIdeal Cert.KernelIdeal.Gen
open Idealize.ShloMosaic Idealize.SL.Sem

/-- The named reciprocal of the number of points. -/
def invN : EReal := Named.named (F := Ideal) κ "inv_n" (φ := .f32) 0x3727C5AC#32

/-- The named constant is one over the number of rows. -/
theorem invN_eq : invN = ((1 / 100000 : ℝ) : EReal) := IdealRules.named_const.ideal_named_scalar _ _ _ _ rfl

/-- The weights times the column sums. -/
def colDot (W : Fin 64 → Fin 64 → EReal) (s : Fin 64 → EReal) (c : Fin 64) : EReal := ∑ k, s k * W k c

/-- The mean of the hidden layer's column. -/
def meanOf (t b : EReal) : EReal := t * invN + b

/-- The column's scale, from the Gram matrix's diagonal `d`, the column's sum `t`, the bias and the gain. -/
def scaleOf (d t b ga : EReal) : EReal :=
  ga * Ideal.rsqrt ((d + (Ideal.ofBits .f32 0x40000000#32 : EReal) * b * t) * invN + b * b - meanOf t b * meanOf t b
    + (Ideal.ofBits .f32 0x3A83126F#32 : EReal))

/-- The Gram matrix between the weights' columns. -/
def gramDiag (W G : Fin 64 → Fin 64 → EReal) (c : Fin 64) : EReal := ∑ k, W k c * ∑ l, G k l * W l c

/-- The kernel's product of the column sums with the weights. -/
theorem colDot_apply (W : Vec Ideal S64x64 .f32) (s : Vec Ideal S1x64 .f32) (c : Fin 64) :
    k0_pay21 W s (ix2 0 c) = colDot (fun k l => W (ix2 k l)) (fun k => s (ix2 0 k)) c := by
  pointwise [k0_pay21, colDot]

/-- The kernel's mean of a hidden column. -/
theorem mean_apply (W : Vec Ideal S64x64 .f32) (b s : Vec Ideal S1x64 .f32) (c : Fin 64) :
    k0_pay22 W b s (ix2 0 c) = meanOf (k0_pay21 W s (ix2 0 c)) (b (ix2 0 c)) := by
  pointwise [k0_pay22, k0_pay20, meanOf, invN]

/-- The kernel's scale of a hidden column. -/
theorem scale_apply (W : Vec Ideal S64x64 .f32) (b s : Vec Ideal S1x64 .f32) (G : Vec Ideal S64x64 .f32) (ga : Vec Ideal S1x64 .f32) (c : Fin 64) :
    k0_pay23 W b s G ga (ix2 0 c)
      = scaleOf (gramDiag (fun k l => W (ix2 k l)) (fun k l => G (ix2 k l)) c) (k0_pay21 W s (ix2 0 c)) (b (ix2 0 c)) (ga (ix2 0 c)) := by
  unfold scaleOf
  rw [← mean_apply]
  pointwise [k0_pay23, k0_pay20, invN, gramDiag]

/-- The stored scale is the scale, as a column. -/
theorem scaleCol_apply (W : Vec Ideal S64x64 .f32) (b s : Vec Ideal S1x64 .f32) (G : Vec Ideal S64x64 .f32) (ga : Vec Ideal S1x64 .f32) (c : Fin 64) :
    k0_pay25 W b s G ga (ix2 c 0) = k0_pay23 W b s G ga (ix2 0 c) := by
  pointwise [k0_pay25]

/-- The stored shift: the offset less the unbiased mean times the scale. -/
theorem shiftCol_apply (W : Vec Ideal S64x64 .f32) (b s : Vec Ideal S1x64 .f32) (G : Vec Ideal S64x64 .f32) (ga be : Vec Ideal S1x64 .f32) (c : Fin 64) :
    k0_pay6 (k0_pay24 W b s G ga be) (ix2 c 0)
      = be (ix2 0 c) - (meanOf (k0_pay21 W s (ix2 0 c)) (b (ix2 0 c)) - b (ix2 0 c)) * k0_pay23 W b s G ga (ix2 0 c) := by
  rw [← mean_apply]
  pointwise [k0_pay6, k0_pay24, k0_pay20]

end Cert.KernelIdeal.Fused

end
-- ==== Proof.Values.Spec.lean ====
/- The kernel's loss as one expression of the arguments' elements. -/
module

public import proofs.«01_k».proof.Proof.Values.CrossEntropy
public import proofs.«01_k».proof.Proof.Values.Statistics

@[expose] public section

set_option maxRecDepth 16384

noncomputable section

namespace Cert.Loss

open Idealize.ShloMosaic Cert.KernelIdeal.Fused

/-- The arguments' elements. -/
structure Data where
  /-- features -/
  feat : Fin 100000 → Fin 64 → EReal
  /-- coordinates -/
  coord : Fin 100000 → Fin 3 → EReal
  /-- instance centroids -/
  cent : Fin 100000 → Fin 3 → EReal
  /-- class labels -/
  seg : Fin 100000 → BitVec 32
  /-- instance labels -/
  inst : Fin 100000 → BitVec 32
  /-- first layer -/
  W1 : Fin 64 → Fin 64 → EReal
  /-- first bias -/
  b1 : Fin 64 → EReal
  /-- gain -/
  ga : Fin 64 → EReal
  /-- offset -/
  be : Fin 64 → EReal
  /-- second layer -/
  W2 : Fin 64 → Fin 3 → EReal
  /-- second bias -/
  b2 : Fin 3 → EReal
  /-- segmentation layer -/
  Ws : Fin 64 → Fin 20 → EReal
  /-- class biases -/
  bs : Fin 20 → EReal

/-- An integer as a number. -/
def num (b : BitVec 32) : EReal := ((b.toInt : ℝ) : EReal)

/-- The small number added to every denominator. -/
def tiny : EReal := (Ideal.ofBits .f32 0x322BCC77#32 : EReal)

namespace Data

variable (D : Data)

/-- The Gram matrix of the features. -/
def gram (a b : Fin 64) : EReal := ∑ r, D.feat r a * D.feat r b
/-- The features' column sums. -/
def colsum (b : Fin 64) : EReal := ∑ r, D.feat r b
/-- The hidden layer without its bias. -/
def hid (r : Fin 100000) (c : Fin 64) : EReal := ∑ k, D.W1 k c * D.feat r k
/-- The hidden layer's column sum, without the bias. -/
def hsum (c : Fin 64) : EReal := colDot D.W1 D.colsum c
/-- The normalisation's scale. -/
def scale (c : Fin 64) : EReal := scaleOf (gramDiag D.W1 D.gram c) (D.hsum c) (D.b1 c) (D.ga c)
/-- The normalisation's shift. -/
def shift (c : Fin 64) : EReal := D.be c - (meanOf (D.hsum c) (D.b1 c) - D.b1 c) * D.scale c
/-- The predicted displacement. -/
def pred (r : Fin 100000) (d : Fin 3) : EReal := (∑ c, D.W2 c d * max (D.hid r c * D.scale c + D.shift c) 0) + D.b2 d
/-- The true displacement. -/
def disp (r : Fin 100000) (d : Fin 3) : EReal := D.cent r d - D.coord r d
/-- The masked points' indicator. -/
def mask (r : Fin 100000) : EReal := neInd (num (D.inst r)) (negOne (F := Ideal))
/-- The class scores. -/
def score (r : Fin 100000) (c : Fin 20) : EReal := (∑ k, D.Ws k c * D.feat r k) + D.bs c
/-- The row's distance. -/
def dist (r : Fin 100000) : EReal := ∑ d, max (D.pred r d - D.disp r d) (-(D.pred r d - D.disp r d))

/-- The kernel's loss. -/
def kernelLoss : EReal :=
  Ideal.div (∑ r, ceRow (D.score r) (num (D.seg r))) ((∑ r, neInd (num (D.seg r)) (negOne (F := Ideal))) + tiny)
  + Ideal.div ((∑ r, D.dist r * D.mask r) + ∑ r, cosRow (D.pred r) (D.disp r) * D.mask r) ((∑ r, D.mask r) + tiny)

end Data

end Cert.Loss

end
-- ==== Proof.Values.Blocks.lean ====
/- The windows' blocks as rows of the arguments. -/
module

public import proofs.«01_k».proof.Proof.KernelIdeal.Frame
public import Idealize.ShloMosaic.Lib.Pointwise
public import Idealize.ShloMosaic.Lib.Pointwise.IndexBridge
public import Idealize.ShloMosaic.Lib.Claim

@[expose] public section

set_option maxRecDepth 16384

noncomputable section

namespace Cert.KernelIdeal.Fused

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ)

/-- The block indices of the feature rows. -/
theorem at_feat : ∀ t : Fin cfg0.N, win0_0.index t (0 : Fin 2) = min t.val 9 ∧ win0_0.index t (1 : Fin 2) = 0 :=
  (by decide +kernel : ∀ t : Fin grid0.N, _)

/-- The block indices of the stacked columns: once over in each phase. -/
theorem at_aux : ∀ t : Fin cfg0.N, win0_1.index t (0 : Fin 3) = t.val % 10 ∧ win0_1.index t (1 : Fin 3) = 0 ∧ win0_1.index t (2 : Fin 3) = 0 :=
  (by decide +kernel : ∀ t : Fin grid0.N, _)

/-- The point's row of the whole array. -/
def rowOf (n : ℕ) (q : Fin 10000) : Fin 100000 := ⟨10000 * (n % 10) + q.val, by have := Nat.mod_lt n (by decide : 0 < 10); omega⟩

/-- A point of the first phase reads its rows of the features. -/
theorem feat_block (c : Dev nD) (n : ℕ) (hn : n < 10) (q : Fin 10000) (k : Fin 64) :
    (blks m c n).f (ix2 q k) = m ((c : Thread nD τ).loc main_arg0) (ix2 (rowOf n q) k) := by
  have hv : (pt n).val = n := Nat.mod_eq_of_lt (by omega)
  obtain ⟨h0, h1⟩ := at_feat (pt n)
  rw [hv] at h0
  show iblk m c 0 (pt n) _ = _
  unfold iblk
  rw [View.read_apply]
  show V m c main_arg0 _ = _
  rw [V_main_arg0]
  congr 1
  funext a
  apply Fin.ext
  match a with
  | ⟨0, _⟩ =>
    show win0_0.index (pt n) 0 * 10000 + 1 * q.val = 10000 * (n % 10) + q.val
    rw [h0]; omega
  | ⟨1, _⟩ =>
    show win0_0.index (pt n) 1 * 64 + 1 * k.val = k.val
    rw [h1]; omega

/-- A point reads its rows of the stacked columns, transposed. -/
theorem aux_block (c : Dev nD) (n : ℕ) (hn : n < 20) (e : Fin 8) (q : Fin 10000) :
    (blks m c n).aux (ix3 0 e q) = V m c main_v6 (ix3 ⟨n % 10, Nat.mod_lt _ (by decide)⟩ e q) := by
  have hv : (pt n).val = n := Nat.mod_eq_of_lt hn
  obtain ⟨h0, h1, h2⟩ := at_aux (pt n)
  rw [hv] at h0
  show iblk m c 1 (pt n) _ = _
  unfold iblk
  rw [View.read_apply]
  show V m c main_v6 _ = _
  congr 1
  funext a
  apply Fin.ext
  match a with
  | ⟨0, _⟩ =>
    show win0_1.index (pt n) 0 * 1 + 1 * 0 = n % 10
    rw [h0]; omega
  | ⟨1, _⟩ =>
    show win0_1.index (pt n) 1 * 8 + 1 * e.val = e.val
    rw [h1]; omega
  | ⟨2, _⟩ =>
    show win0_1.index (pt n) 2 * 10000 + 1 * q.val = q.val
    rw [h2]; omega

end Cert.KernelIdeal.Fused

end
-- ==== Proof.Values.Stacked.lean ====
/- The arrays the host lays out for the kernel, read at an element. -/
module

public import proofs.«01_k».proof.Proof.Values.Blocks
public import Idealize.ShloMosaic.Lib.Pointwise
public import Idealize.ShloMosaic.Lib.Pointwise.IndexBridge
public import Idealize.ShloMosaic.Lib.Claim

@[expose] public section

set_option maxRecDepth 16384

noncomputable section

namespace Cert.KernelIdeal.Fused

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ)

/-- The columns stacked: coordinates, centroids, the label as a number, the instance as a number. -/
def stack (x1 x2 : Vec F S100000x3 .f32) (x3 x4 : Vec F S100000x1 .f32) : Vec F S100000x8 .f32 :=
  concatenate S100000x8 1 [⟨S100000x3, x1⟩, ⟨S100000x3, x2⟩, ⟨S100000x1, x3⟩, ⟨S100000x1, x4⟩] concatenates_S100000x3_S100000x3_S100000x1_S100000x1_S100000x8_d1

/-- The kernel's second array: the stack, cut into the points' rows and transposed. -/
theorem V_aux (c : Dev nD) : V m c main_v6
    = transpose S10x8x10000 [0, 2, 1] (shapeCast S10x10000x8 (stack (m ((c : Thread nD τ).loc main_arg1)) (m ((c : Thread nD τ).loc main_arg2))
        (broadcastInDim S100000x1 ![0] bcast_S100000_S100000x1_0 (sitofp .f32 (m ((c : Thread nD τ).loc main_arg3))))
        (broadcastInDim S100000x1 ![0] bcast_S100000_S100000x1_0 (sitofp .f32 (m ((c : Thread nD τ).loc main_arg4)))))
          shapeCasts_S100000x8_S10x10000x8) transposes_S10x10000x8_S10x8x10000_0_2_1 := by
  rfl

/-- The kernel's class biases are the argument, as a column. -/
theorem V_bseg (c : Dev nD) : V m c main_v7 = shapeCast S20x1 (m ((c : Thread nD τ).loc main_arg12)) shapeCasts_S20_S20x1 := by rfl
/-- The kernel's gains are the argument, as a row. -/
theorem V_gamma (c : Dev nD) : V m c main_v8 = shapeCast S1x64 (m ((c : Thread nD τ).loc main_arg7)) shapeCasts_S64_S1x64 := by rfl
/-- The kernel's offsets are the argument, as a row. -/
theorem V_beta (c : Dev nD) : V m c main_v9 = shapeCast S1x64 (m ((c : Thread nD τ).loc main_arg8)) shapeCasts_S64_S1x64 := by rfl
/-- The kernel's first bias is the argument, as a row. -/
theorem V_b1 (c : Dev nD) : V m c main_v10 = shapeCast S1x64 (m ((c : Thread nD τ).loc main_arg6)) shapeCasts_S64_S1x64 := by rfl
/-- The kernel's second bias is the argument, as a column. -/
theorem V_b2 (c : Dev nD) : V m c main_v11 = shapeCast S3x1 (m ((c : Thread nD τ).loc main_arg10)) shapeCasts_S3_S3x1 := by rfl

/-- The stack's columns 0 to 2 are the coordinates. -/
theorem stack_coord (x1 x2 : Vec F S100000x3 .f32) (x3 x4 : Vec F S100000x1 .f32) (r : Fin 100000) (d : Fin 3) :
    stack x1 x2 x3 x4 (ix2 r ⟨d.val, by omega⟩) = x1 (ix2 r d) := by
  pointwise [stack]

/-- The stack's columns 3 to 5 are the instance centroids. -/
theorem stack_centroid (x1 x2 : Vec F S100000x3 .f32) (x3 x4 : Vec F S100000x1 .f32) (r : Fin 100000) (d : Fin 3) :
    stack x1 x2 x3 x4 (ix2 r ⟨3 + d.val, by omega⟩) = x2 (ix2 r d) := by
  pointwise [stack]

/-- The stack's column 6 is the class label. -/
theorem stack_label (x1 x2 : Vec F S100000x3 .f32) (x3 x4 : Vec F S100000x1 .f32) (r : Fin 100000) :
    stack x1 x2 x3 x4 (ix2 r 6) = x3 (ix2 r 0) := by
  pointwise [stack]

/-- The stack's column 7 is the instance label. -/
theorem stack_instance (x1 x2 : Vec F S100000x3 .f32) (x3 x4 : Vec F S100000x1 .f32) (r : Fin 100000) :
    stack x1 x2 x3 x4 (ix2 r 7) = x4 (ix2 r 0) := by
  pointwise [stack]

/-- A block's entry is the stack's at the point's row. -/
theorem aux_stack (c : Dev nD) (n : ℕ) (hn : n < 20) (e : Fin 8) (q : Fin 10000) :
    (blks m c n).aux (ix3 0 e q) = stack (m ((c : Thread nD τ).loc main_arg1)) (m ((c : Thread nD τ).loc main_arg2))
        (broadcastInDim S100000x1 ![0] bcast_S100000_S100000x1_0 (sitofp .f32 (m ((c : Thread nD τ).loc main_arg3))))
        (broadcastInDim S100000x1 ![0] bcast_S100000_S100000x1_0 (sitofp .f32 (m ((c : Thread nD τ).loc main_arg4)))) (ix2 (rowOf n q) e) := by
  rw [aux_block m c n hn, V_aux]
  generalize stack _ _ _ _ = u
  pointwise [rowOf]
  try (congr 1; congr 1; apply Fin.ext; simp; omega)

/-- A block's rows 0 to 2 are its points' coordinates. -/
theorem aux_coord (c : Dev nD) (n : ℕ) (hn : n < 20) (d : Fin 3) (q : Fin 10000) :
    (blks m c n).aux (ix3 0 ⟨d.val, by omega⟩ q) = m ((c : Thread nD τ).loc main_arg1) (ix2 (rowOf n q) d) := by
  rw [aux_stack m c n hn, stack_coord]

/-- A block's rows 3 to 5 are its points' centroids. -/
theorem aux_centroid (c : Dev nD) (n : ℕ) (hn : n < 20) (d : Fin 3) (q : Fin 10000) :
    (blks m c n).aux (ix3 0 ⟨3 + d.val, by omega⟩ q) = m ((c : Thread nD τ).loc main_arg2) (ix2 (rowOf n q) d) := by
  rw [aux_stack m c n hn, stack_centroid]

/-- A block's row 6 is its points' class labels, as numbers. -/
theorem aux_label (c : Dev nD) (n : ℕ) (hn : n < 20) (q : Fin 10000) :
    (blks m c n).aux (ix3 0 6 q) = FloatOps.sitofp .f32 (m ((c : Thread nD τ).loc main_arg3) (ix1 (rowOf n q))) := by
  rw [aux_stack m c n hn, stack_label]
  pointwise []

/-- A block's row 7 is its points' instance labels, as numbers. -/
theorem aux_instance (c : Dev nD) (n : ℕ) (hn : n < 20) (q : Fin 10000) :
    (blks m c n).aux (ix3 0 7 q) = FloatOps.sitofp .f32 (m ((c : Thread nD τ).loc main_arg4) (ix1 (rowOf n q))) := by
  rw [aux_stack m c n hn, stack_instance]
  pointwise []

/-- Every point reads the whole weights. -/
theorem at_rest : ∀ t : Fin cfg0.N, ∀ a : Fin 2, win0_2.index t a = 0 ∧ win0_3.index t a = 0 ∧ win0_4.index t a = 0 ∧ win0_5.index t a = 0
    ∧ win0_6.index t a = 0 ∧ win0_7.index t a = 0 ∧ win0_8.index t a = 0 ∧ win0_9.index t a = 0 :=
  (by decide +kernel : ∀ t : Fin grid0.N, _)

/-- Every point reads the first layer's weights whole. -/
theorem W1_block (c : Dev nD) (n : ℕ) : (blks m c n).W1 = m ((c : Thread nD τ).loc main_arg5) := by
  have h := at_rest (pt n)
  funext y
  show iblk m c 2 (pt n) y = _
  unfold iblk
  rw [View.read_apply]
  show V m c main_arg5 _ = _
  rw [V_main_arg5]
  congr 1
  funext a
  apply Fin.ext
  show win0_2.index (pt n) a * _ + 1 * (y a).val = (y a).val
  rw [(h a).1]; omega

/-- Every point reads the segmentation weights whole. -/
theorem Ws_block (c : Dev nD) (n : ℕ) : (blks m c n).Ws = m ((c : Thread nD τ).loc main_arg11) := by
  have h := at_rest (pt n)
  funext y
  show iblk m c 3 (pt n) y = _
  unfold iblk
  rw [View.read_apply]
  show V m c main_arg11 _ = _
  rw [V_main_arg11]
  congr 1
  funext a
  apply Fin.ext
  show win0_3.index (pt n) a * _ + 1 * (y a).val = (y a).val
  rw [(h a).2.1]; omega

/-- Every point reads the class biases whole. -/
theorem bs_block (c : Dev nD) (n : ℕ) : (blks m c n).bs = V m c main_v7 := by
  have h := at_rest (pt n)
  funext y
  show iblk m c 4 (pt n) y = _
  unfold iblk
  rw [View.read_apply]
  show V m c main_v7 _ = _
  congr 1
  funext a
  apply Fin.ext
  show win0_4.index (pt n) a * _ + 1 * (y a).val = (y a).val
  rw [(h a).2.2.1]; omega

/-- Every point reads the gains whole. -/
theorem ga_block (c : Dev nD) (n : ℕ) : (blks m c n).ga = V m c main_v8 := by
  have h := at_rest (pt n)
  funext y
  show iblk m c 5 (pt n) y = _
  unfold iblk
  rw [View.read_apply]
  show V m c main_v8 _ = _
  congr 1
  funext a
  apply Fin.ext
  show win0_5.index (pt n) a * _ + 1 * (y a).val = (y a).val
  rw [(h a).2.2.2.1]; omega

/-- Every point reads the offsets whole. -/
theorem be_block (c : Dev nD) (n : ℕ) : (blks m c n).be = V m c main_v9 := by
  have h := at_rest (pt n)
  funext y
  show iblk m c 6 (pt n) y = _
  unfold iblk
  rw [View.read_apply]
  show V m c main_v9 _ = _
  congr 1
  funext a
  apply Fin.ext
  show win0_6.index (pt n) a * _ + 1 * (y a).val = (y a).val
  rw [(h a).2.2.2.2.1]; omega

/-- Every point reads the first bias whole. -/
theorem b1_block (c : Dev nD) (n : ℕ) : (blks m c n).b1 = V m c main_v10 := by
  have h := at_rest (pt n)
  funext y
  show iblk m c 7 (pt n) y = _
  unfold iblk
  rw [View.read_apply]
  show V m c main_v10 _ = _
  congr 1
  funext a
  apply Fin.ext
  show win0_7.index (pt n) a * _ + 1 * (y a).val = (y a).val
  rw [(h a).2.2.2.2.2.1]; omega

/-- Every point reads the second layer's weights whole. -/
theorem W2_block (c : Dev nD) (n : ℕ) : (blks m c n).W2 = m ((c : Thread nD τ).loc main_arg9) := by
  have h := at_rest (pt n)
  funext y
  show iblk m c 8 (pt n) y = _
  unfold iblk
  rw [View.read_apply]
  show V m c main_arg9 _ = _
  rw [V_main_arg9]
  congr 1
  funext a
  apply Fin.ext
  show win0_8.index (pt n) a * _ + 1 * (y a).val = (y a).val
  rw [(h a).2.2.2.2.2.2.1]; omega

/-- Every point reads the second bias whole. -/
theorem b2_block (c : Dev nD) (n : ℕ) : (blks m c n).b2 = V m c main_v11 := by
  have h := at_rest (pt n)
  funext y
  show iblk m c 9 (pt n) y = _
  unfold iblk
  rw [View.read_apply]
  show V m c main_v11 _ = _
  congr 1
  funext a
  apply Fin.ext
  show win0_9.index (pt n) a * _ + 1 * (y a).val = (y a).val
  rw [(h a).2.2.2.2.2.2.2]; omega

/-- A point's class bias is the argument's. -/
theorem bs_entry (c : Dev nD) (n : ℕ) (k : Fin 20) : (blks m c n).bs (ix2 k 0) = m ((c : Thread nD τ).loc main_arg12) (ix1 k) := by
  rw [bs_block, V_bseg]
  pointwise []

/-- A point's gain is the argument's. -/
theorem ga_entry (c : Dev nD) (n : ℕ) (k : Fin 64) : (blks m c n).ga (ix2 0 k) = m ((c : Thread nD τ).loc main_arg7) (ix1 k) := by
  rw [ga_block, V_gamma]
  pointwise []

/-- A point's offset is the argument's. -/
theorem be_entry (c : Dev nD) (n : ℕ) (k : Fin 64) : (blks m c n).be (ix2 0 k) = m ((c : Thread nD τ).loc main_arg8) (ix1 k) := by
  rw [be_block, V_beta]
  pointwise []

/-- A point's entry of the first bias is the argument's. -/
theorem b1_entry (c : Dev nD) (n : ℕ) (k : Fin 64) : (blks m c n).b1 (ix2 0 k) = m ((c : Thread nD τ).loc main_arg6) (ix1 k) := by
  rw [b1_block, V_b1]
  pointwise []

/-- A point's entry of the second bias is the argument's. -/
theorem b2_entry (c : Dev nD) (n : ℕ) (k : Fin 3) : (blks m c n).b2 (ix2 k 0) = m ((c : Thread nD τ).loc main_arg10) (ix1 k) := by
  rw [b2_block, V_b2]
  pointwise []

end Cert.KernelIdeal.Fused

end
-- ==== Proof.Values.Folds.lean ====
/- What the scratch holds after each phase, and the kernel's result. -/
module

public import proofs.«01_k».proof.Proof.Values.Spec
public import proofs.«01_k».proof.Proof.Values.Stacked

@[expose] public section

set_option maxRecDepth 16384

noncomputable section

namespace Cert.KernelIdeal.Fused

open Cert.KernelIdeal Cert.KernelIdeal.Gen Cert.Loss
open Idealize.ShloMosaic Idealize.ShloMosaic.TcCoe Idealize.SL.Sem

variable (m : (ℓ : Loc nD τ sig) → Buf (Elt Ideal) ℓ)

/-- The arguments' elements, read off the memory. -/
def dataOf (c : Dev nD) : Data where
  feat r k := m ((c : Thread nD τ).loc main_arg0) (ix2 r k)
  coord r d := m ((c : Thread nD τ).loc main_arg1) (ix2 r d)
  cent r d := m ((c : Thread nD τ).loc main_arg2) (ix2 r d)
  seg r := m ((c : Thread nD τ).loc main_arg3) (ix1 r)
  inst r := m ((c : Thread nD τ).loc main_arg4) (ix1 r)
  W1 k l := m ((c : Thread nD τ).loc main_arg5) (ix2 k l)
  b1 k := m ((c : Thread nD τ).loc main_arg6) (ix1 k)
  ga k := m ((c : Thread nD τ).loc main_arg7) (ix1 k)
  be k := m ((c : Thread nD τ).loc main_arg8) (ix1 k)
  W2 k d := m ((c : Thread nD τ).loc main_arg9) (ix2 k d)
  b2 d := m ((c : Thread nD τ).loc main_arg10) (ix1 d)
  Ws k l := m ((c : Thread nD τ).loc main_arg11) (ix2 k l)
  bs l := m ((c : Thread nD τ).loc main_arg12) (ix1 l)

/-! ## Sums over the rows, block by block -/

/-- A sum over the rows is the sum of the ten blocks' sums. -/
theorem sum_rows (φ : Fin 100000 → EReal) : ∑ r, φ r = ∑ n : Fin 10, ∑ q : Fin 10000, φ (rowOf n.val q) := by
  rw [← Finset.sum_product', Finset.univ_product_univ]
  refine (Fintype.sum_equiv (finProdFinEquiv (m := 10) (n := 10000)) _ _ fun x => ?_).symm
  congr 1
  apply Fin.ext
  show 10000 * (x.1.val % 10) + x.2.val = x.2.val + 10000 * x.1.val
  rw [Nat.mod_eq_of_lt x.1.isLt, Nat.add_comm]

/-- What starts at nothing and takes in each block's sum in turn ends at the sum over the rows. -/
theorem fold_rows (φ : Fin 100000 → EReal) (acc : ℕ → EReal) (h0 : acc 0 = 0)
    (hs : ∀ n, n < 10 → acc (n + 1) = acc n + ∑ q : Fin 10000, φ (rowOf n q)) : acc 10 = ∑ r, φ r := by
  have key : ∀ n, n ≤ 10 → acc n = ∑ i ∈ Finset.range n, ∑ q : Fin 10000, φ (rowOf i q) := by
    intro n
    induction n with
    | zero => intro _; rw [h0]; rfl
    | succ k ih => intro h; rw [hs k (by omega), ih (by omega), Finset.sum_range_succ]
  rw [key 10 le_rfl, sum_rows, Finset.sum_range]

/-! ## The two phases -/

/-- The scratch through the first phase, from its reset. -/
def phase1 (c : Dev nD) : ℕ → St Ideal
  | 0 => reset someSt
  | n + 1 => first n (blks m c n) (phase1 c n)

/-- The scratch through the second phase, from the statistics. -/
def phase2 (c : Dev nD) : ℕ → St Ideal
  | 0 => stats (blks m c 10) (phase1 m c 10)
  | n + 1 => second (slabOf (n + 10)) (blks m c (n + 10)) (phase2 c n)

/-- The first ten points are the first phase. -/
theorem stAt_first (c : Dev nD) (n : ℕ) (h : n < 10) : stAt m c (n + 1) someSt = phase1 m c (n + 1) := by
  induction n with
  | zero => rfl
  | succ k ih =>
    show step (k + 1) (blks m c (k + 1)) (stAt m c (k + 1) someSt) = _
    rw [step, if_neg (by omega), if_pos h, ih (by omega)]; rfl

/-- The last ten points are the second phase. -/
theorem stAt_second (c : Dev nD) (n : ℕ) : stAt m c (n + 11) someSt = phase2 m c (n + 1) := by
  induction n with
  | zero =>
    show step 10 (blks m c 10) (stAt m c (9 + 1) someSt) = _
    rw [stAt_first m c 9 (by decide)]; rfl
  | succ k ih =>
    show step (k + 11) (blks m c (k + 11)) (stAt m c (k + 11) someSt) = _
    rw [step, if_neg (by omega), if_neg (by omega), if_neg (by omega), ih]; rfl

/-- The first phase ends with the Gram matrix. -/
theorem gram_end (c : Dev nD) (a b : Fin 64) : (phase1 m c 10).G (ix2 a b) = (dataOf m c).gram a b := by
  refine fold_rows (fun r => (dataOf m c).feat r a * (dataOf m c).feat r b) (fun n => (phase1 m c n).G (ix2 a b)) ?_ ?_
  · show k0_pay1 (ix2 a b) = 0
    pointwise [k0_pay1]
  · intro n hn
    show k0_pay12 (blks m c n).f (phase1 m c n).G (ix2 a b) = _
    rw [gram_apply]
    simp only [feat_block m c n hn]; rfl

/-- The first phase ends with the features' column sums. -/
theorem colsum_end (c : Dev nD) (b : Fin 64) : (phase1 m c 10).s (ix2 0 b) = (dataOf m c).colsum b := by
  refine fold_rows (fun r => (dataOf m c).feat r b) (fun n => (phase1 m c n).s (ix2 0 b)) ?_ ?_
  · show k0_pay2 (ix2 0 b) = 0
    pointwise [k0_pay2]
  · intro n hn
    show k0_pay13 (blks m c n).f (phase1 m c n).s (ix2 0 b) = _
    rw [colsum_apply]
    simp only [feat_block m c n hn]; rfl

/-- The first phase ends with the cross-entropies' sum. -/
theorem ce_end (c : Dev nD) : (phase1 m c 10).ce (ix2 0 0) = ∑ r, ceRow ((dataOf m c).score r) (num ((dataOf m c).seg r)) := by
  refine fold_rows (fun r => ceRow ((dataOf m c).score r) (num ((dataOf m c).seg r))) (fun n => (phase1 m c n).ce (ix2 0 0)) ?_ ?_
  · show k0_pay3 (ix2 0 0) = 0
    pointwise [k0_pay3]
  · intro n hn
    show k0_pay18 (k0_pay15 (blks m c n).f (blks m c n).Ws (blks m c n).bs) (k0_pay16 (blks m c n).aux) negOne (phase1 m c n).ce (ix2 0 0) = _
    rw [ce_apply]
    simp only [scores_apply, label_apply, feat_block m c n hn, aux_label m c n (by omega), Ws_block, bs_entry]; rfl

/-- The first phase ends with the number of labelled rows. -/
theorem count_end (c : Dev nD) : (phase1 m c 10).va (ix2 0 0) = ∑ r, neInd (num ((dataOf m c).seg r)) (negOne (F := Ideal)) := by
  refine fold_rows (fun r => neInd (num ((dataOf m c).seg r)) (negOne (F := Ideal))) (fun n => (phase1 m c n).va (ix2 0 0)) ?_ ?_
  · show k0_pay4 (ix2 0 0) = 0
    pointwise [k0_pay4]
  · intro n hn
    show k0_pay5 (k0_pay19 (k0_pay16 (blks m c n).aux) negOne (phase1 m c n).va) (ix2 0 0) = _
    rw [count_apply]
    simp only [label_apply, aux_label m c n (by omega)]; rfl

/-- The first phase's stored slabs. -/
theorem hidden_end (c : Dev nD) (j : Fin 10) (k : Fin 64) (q : Fin 10000) :
    slab (phase1 m c 10).hT j (ix3 0 k q) = (dataOf m c).hid (rowOf j.val q) k := by
  have key : ∀ n, n ≤ 10 → j.val < n → (phase1 m c n).hT (ix3 j k q) = (dataOf m c).hid (rowOf j.val q) k := by
    intro n
    induction n with
    | zero => intro _ h; omega
    | succ i ih =>
      intro h hj
      show putSlab (phase1 m c i).hT i (k0_pay14 (blks m c i).f (blks m c i).W1) (ix3 j k q) = _
      unfold putSlab
      by_cases e : j.val = i
      · rw [if_pos (show (ix3 j k q 0).val = i from e)]
        show k0_pay14 (blks m c i).f (blks m c i).W1 (ValueIdx.ix3 (0 : Fin 1) k q) = _
        rw [← ix3_eq_valueIdx, hidden_apply]
        simp only [feat_block m c i (by omega), W1_block]
        rw [e]; rfl
      · rw [if_neg (show ¬(ix3 j k q 0).val = i from e)]
        exact ih (by omega) (by omega)
  show (phase1 m c 10).hT (ValueIdx.ix3 j k q) = _
  rw [← ix3_eq_valueIdx]
  exact key 10 le_rfl j.isLt

/-! ## The second phase -/

/-- The second phase keeps what the first left and the statistics. -/
theorem phase2_keeps (c : Dev nD) (n : ℕ) : (phase2 m c n).hT = (phase1 m c 10).hT ∧ (phase2 m c n).ce = (phase1 m c 10).ce
    ∧ (phase2 m c n).va = (phase1 m c 10).va ∧ (phase2 m c n).sc = (phase2 m c 0).sc ∧ (phase2 m c n).sh = (phase2 m c 0).sh := by
  induction n with
  | zero => exact ⟨rfl, rfl, rfl, rfl, rfl⟩
  | succ k ih => exact ih

/-- The statistics' column sum of the hidden layer. -/
theorem hsum_end (c : Dev nD) (k : Fin 64) :
    k0_pay21 (blks m c 10).W1 (phase1 m c 10).s (ix2 0 k) = (dataOf m c).hsum k := by
  rw [colDot_apply, W1_block]
  simp only [colsum_end]; rfl

/-- The statistics' scale, before it is stored. -/
theorem scaleRow_end (c : Dev nD) (k : Fin 64) :
    k0_pay23 (blks m c 10).W1 (blks m c 10).b1 (phase1 m c 10).s (phase1 m c 10).G (blks m c 10).ga (ix2 0 k) = (dataOf m c).scale k := by
  rw [scale_apply, hsum_end, W1_block, b1_entry, ga_entry]
  simp only [gram_end]; rfl

/-- The stored scale. -/
theorem scale_end (c : Dev nD) (k : Fin 64) : (phase2 m c 0).sc (ix2 k 0) = (dataOf m c).scale k :=
  (scaleCol_apply _ _ _ _ _ k).trans (scaleRow_end m c k)

/-- The stored shift. -/
theorem shift_end (c : Dev nD) (k : Fin 64) : (phase2 m c 0).sh (ix2 k 0) = (dataOf m c).shift k := by
  refine (shiftCol_apply _ _ _ _ _ _ k).trans ?_
  rw [scaleRow_end, hsum_end, b1_entry, be_entry]; rfl

/-- A row's prediction, from the stored slab. -/
theorem pred_end (c : Dev nD) (n : ℕ) (hn : n < 10) (d : Fin 3) (q : Fin 10000) :
    k0_pay26 (slab (phase2 m c n).hT (slabOf (n + 10))) (phase2 m c n).sc (phase2 m c n).sh (blks m c (n + 10)).W2 (blks m c (n + 10)).b2 (ix2 d q)
      = (dataOf m c).pred (rowOf n q) d := by
  obtain ⟨hh, -, -, hsc, hsh⟩ := phase2_keeps m c n
  rw [pred_apply, hh, hsc, hsh]
  have hr : (slabOf (n + 10)).val = n := by show (n + 10 - 10) % 10 = n; omega
  simp only [hidden_end, scale_end, shift_end, W2_block, b2_entry, hr]; rfl

/-- The second phase meets the same rows as the first. -/
theorem rowOf_add (n : ℕ) (q : Fin 10000) : rowOf (n + 10) q = rowOf n q := by
  apply Fin.ext; show 10000 * ((n + 10) % 10) + q.val = 10000 * (n % 10) + q.val; omega

/-- A row's true displacement, from the block. -/
theorem disp_end (c : Dev nD) (n : ℕ) (hn : n < 10) (d : Fin 3) (q : Fin 10000) :
    k0_pay28 (blks m c (n + 10)).aux (ix2 d q) = (dataOf m c).disp (rowOf n q) d := by
  rw [shift_apply, aux_coord m c _ (by omega), aux_centroid m c _ (by omega), rowOf_add]; rfl

/-- A row's mask, from the block. -/
theorem mask_end (c : Dev nD) (n : ℕ) (hn : n < 10) (q : Fin 10000) :
    k0_pay29 (blks m c (n + 10)).aux (ix2 0 q) = (dataOf m c).mask (rowOf n q) := by
  rw [mask_apply, aux_instance m c _ (by omega), rowOf_add]; rfl

/-- The second phase ends with the distances' sum. -/
theorem dist_end (c : Dev nD) : (phase2 m c 10).l1 (ix2 0 0) = ∑ r, (dataOf m c).dist r * (dataOf m c).mask r := by
  refine fold_rows (fun r => (dataOf m c).dist r * (dataOf m c).mask r) (fun n => (phase2 m c n).l1 (ix2 0 0)) ?_ ?_
  · show k0_pay7 (ix2 0 0) = 0
    pointwise [k0_pay7]
  · intro n hn
    show k0_pay33 (k0_pay29 (blks m c (n + 10)).aux) (k0_pay30 (slab (phase2 m c n).hT (slabOf (n + 10))) (phase2 m c n).sc (phase2 m c n).sh (blks m c (n + 10)).W2 (blks m c (n + 10)).b2 (blks m c (n + 10)).aux) (phase2 m c n).l1 (ix2 0 0) = _
    rw [dist_apply]
    simp only [pred_end m c n hn, disp_end m c n hn, mask_end m c n hn]; rfl

/-- The second phase ends with the cosines' sum. -/
theorem cos_end (c : Dev nD) : (phase2 m c 10).co (ix2 0 0) = ∑ r, cosRow ((dataOf m c).pred r) ((dataOf m c).disp r) * (dataOf m c).mask r := by
  refine fold_rows (fun r => cosRow ((dataOf m c).pred r) ((dataOf m c).disp r) * (dataOf m c).mask r) (fun n => (phase2 m c n).co (ix2 0 0)) ?_ ?_
  · show k0_pay8 (ix2 0 0) = 0
    pointwise [k0_pay8]
  · intro n hn
    show k0_pay34 (k0_pay28 (blks m c (n + 10)).aux) (k0_pay29 (blks m c (n + 10)).aux)
      (k0_pay31 (slab (phase2 m c n).hT (slabOf (n + 10))) (phase2 m c n).sc (phase2 m c n).sh (blks m c (n + 10)).W2 (blks m c (n + 10)).b2 (blks m c (n + 10)).aux)
      (k0_pay32 (slab (phase2 m c n).hT (slabOf (n + 10))) (phase2 m c n).sc (phase2 m c n).sh (blks m c (n + 10)).W2 (blks m c (n + 10)).b2) (phase2 m c n).co (ix2 0 0) = _
    rw [cos_apply]
    simp only [pred_end m c n hn, disp_end m c n hn, mask_end m c n hn]

/-- The second phase ends with the number of masked rows. -/
theorem masked_end (c : Dev nD) : (phase2 m c 10).ma (ix2 0 0) = ∑ r, (dataOf m c).mask r := by
  refine fold_rows (fun r => (dataOf m c).mask r) (fun n => (phase2 m c n).ma (ix2 0 0)) ?_ ?_
  · show k0_pay9 (ix2 0 0) = 0
    pointwise [k0_pay9]
  · intro n hn
    show k0_pay10 (phase2 m c n).ma (k0_pay35 (k0_pay29 (blks m c (n + 10)).aux)) (ix2 0 0) = _
    rw [masked_apply]
    simp only [mask_end m c n hn]

/-- The kernel's result is the loss of the arguments. -/
theorem result_eq (c : Dev nD) : result m c = fun _ => (dataOf m c).kernelLoss := by
  funext i
  idx_vars i
  obtain rfl : i0 = 0 := Subsingleton.elim _ _
  obtain rfl : i1 = 0 := Subsingleton.elim _ _
  show k0_pay11 (stAt m c (9 + 11) someSt).ma (stAt m c (9 + 11) someSt).ce (stAt m c (9 + 11) someSt).va (stAt m c (9 + 11) someSt).l1 (stAt m c (9 + 11) someSt).co (ix2 0 0) = _
  rw [stAt_second]
  obtain ⟨-, hce, hva, -, -⟩ := phase2_keeps m c 10
  rw [final_apply, masked_end, dist_end, cos_end, hce, hva, ce_end, count_end]
  rfl

end Cert.KernelIdeal.Fused

end
-- ==== Proof.Values.Reals.lean ====
/- The literals as real numbers, and sums of reals among the extended reals. -/
module

public import proofs.«01_k».proof.Proof.Values.Spec

@[expose] public section

set_option maxRecDepth 16384

noncomputable section

namespace Cert.Loss

open Idealize.ShloMosaic Cert.KernelIdeal Cert.KernelIdeal.Gen Cert.KernelIdeal.Fused

/-- A sum of reals, taken among the extended reals, is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The denominators' small number is a positive real. -/
theorem tiny_real : ∃ e : ℝ, 0 < e ∧ (Ideal.ofBits .f32 0x322BCC77#32 : EReal) = (e : EReal) :=
  ⟨11258999 / 1125899906842624, by norm_num, by simp [Ideal.ofBits, Ideal.ieee, -EReal.coe_mul]; norm_num⟩

/-- The variance's small number is a positive real. -/
theorem small_real : ∃ e : ℝ, 0 < e ∧ (Ideal.ofBits .f32 0x3A83126F#32 : EReal) = (e : EReal) :=
  ⟨8589935 / 8589934592, by norm_num, by simp [Ideal.ofBits, Ideal.ieee, -EReal.coe_mul]; norm_num⟩

/-- The number of rows, as a literal. -/
theorem count_real : (Ideal.ofBits .f32 0x47C35000#32 : EReal) = ((100000 : ℝ) : EReal) := by
  simp [Ideal.ofBits, Ideal.ieee, -EReal.coe_mul]; norm_num

/-- Two, as a literal. -/
theorem two_real : (Ideal.ofBits .f32 0x40000000#32 : EReal) = ((2 : ℝ) : EReal) := by
  simp [Ideal.ofBits, Ideal.ieee, -EReal.coe_mul]; norm_num

/-- Nineteen, as a literal. -/
theorem nineteen_real : (Ideal.ofBits .f32 0x41980000#32 : EReal) = ((19 : ℝ) : EReal) := by
  simp [Ideal.ofBits, Ideal.ieee, -EReal.coe_mul]; norm_num

/-- The word of minus infinity is the least extended real. -/
theorem bottom_literal : (Ideal.ofBits .f32 0xFF800000#32 : EReal) = ⊥ := by
  simp [Ideal.ofBits, Ideal.ieee]

/-- Minus one, as a literal. -/
theorem negOne_real : (negOne (F := Ideal) : EReal) = ((-1 : ℝ) : EReal) := by
  show (Ideal.ofBits .f32 0xBF800000#32 : EReal) = _
  simp [Ideal.ofBits, Ideal.ieee, -EReal.coe_mul]; norm_num

/-- A root of a real that isn't negative. -/
theorem sqrt_real {x : ℝ} (h : 0 ≤ x) : Ideal.sqrt (x : EReal) = (Real.sqrt x : EReal) := by
  rw [Ideal.sqrt_coe, if_neg (not_lt.mpr h)]

/-- A quotient by a real that isn't zero. -/
theorem div_real {y : ℝ} (h : y ≠ 0) (x : ℝ) : Ideal.div (x : EReal) (y : EReal) = ((x / y : ℝ) : EReal) := by
  rw [Ideal.div_coe h, ← EReal.coe_mul, mul_one_div]

/-- A quotient by the greatest number is zero. -/
theorem div_top (x : EReal) : Ideal.div x ⊤ = 0 := by
  unfold Ideal.div
  rw [if_neg (by simp), EReal.inv_top, mul_zero]

end Cert.Loss

end
-- ==== Proof.Values.Cosine.lean ====
/- The cosine: the quotient of the sums is the sum of the quotients, at infinite vectors too. -/
module

public import proofs.«01_k».proof.Proof.Values.Reals

@[expose] public section

set_option maxRecDepth 16384

noncomputable section

namespace Cert.Loss

open Idealize.ShloMosaic Cert.KernelIdeal Cert.KernelIdeal.Gen Cert.KernelIdeal.Fused

/-- A row's cosine as the reference takes it: the products of the two normalised vectors. -/
def cosine (p g : Fin 3 → EReal) : EReal :=
  ∑ d, Ideal.div (p d) (Ideal.sqrt (∑ e, p e * p e) + (Ideal.ofBits .f32 0x322BCC77#32 : EReal))
    * Ideal.div (g d) (Ideal.sqrt (∑ e, g e * g e) + (Ideal.ofBits .f32 0x322BCC77#32 : EReal))

/-- A square is never negative. -/
theorem square_nonneg (x : EReal) : 0 ≤ x * x := by
  induction x with
  | bot => simp
  | top => simp
  | coe r => rw [← EReal.coe_mul]; exact_mod_cast mul_self_nonneg r

/-- A vector is real, or its squares sum to infinity. -/
theorem real_or_infinite (p : Fin 3 → EReal) : (∃ q : Fin 3 → ℝ, p = fun d => (q d : EReal)) ∨ ∑ d, p d * p d = ⊤ := by
  by_cases h : ∀ d, p d ≠ ⊥ ∧ p d ≠ ⊤
  · exact Or.inl ⟨fun d => (p d).toReal, funext fun d => (EReal.coe_toReal (h d).2 (h d).1).symm⟩
  · refine Or.inr ?_
    obtain ⟨d, hd⟩ := not_forall.mp h
    have e : p d * p d = ⊤ := by
      by_cases hb : p d = ⊥
      · rw [hb]; rfl
      · rw [not_not.mp fun q => hd ⟨hb, q⟩]; rfl
    refine top_le_iff.mp (e ▸ Finset.single_le_sum (f := fun d => p d * p d) (fun i _ => square_nonneg (p i)) (Finset.mem_univ d))

/-- An infinite vector's norm is infinite. -/
theorem norm_infinite {p : Fin 3 → EReal} (h : ∑ d, p d * p d = ⊤) :
    Ideal.sqrt (∑ d, p d * p d) + (Ideal.ofBits .f32 0x322BCC77#32 : EReal) = ⊤ := by
  obtain ⟨e, -, he⟩ := tiny_real
  rw [h, Ideal.sqrt_top, he, EReal.top_add_coe]

/-- A real vector's norm is real and positive. -/
theorem norm_real (q : Fin 3 → ℝ) : ∃ a : ℝ, 0 < a ∧
    Ideal.sqrt (∑ d, (q d : EReal) * (q d : EReal)) + (Ideal.ofBits .f32 0x322BCC77#32 : EReal) = (a : EReal) := by
  obtain ⟨e, pos, he⟩ := tiny_real
  refine ⟨Real.sqrt (∑ d, q d * q d) + e, by positivity, ?_⟩
  simp only [← EReal.coe_mul]
  rw [sum_coe, sqrt_real (Finset.sum_nonneg fun d _ => mul_self_nonneg (q d)), he, EReal.coe_add]

/-- Every vector's norm is positive. -/
theorem norm_positive (p : Fin 3 → EReal) :
    0 < Ideal.sqrt (∑ d, p d * p d) + (Ideal.ofBits .f32 0x322BCC77#32 : EReal) := by
  rcases real_or_infinite p with ⟨q, rfl⟩ | h
  · obtain ⟨a, pos, e⟩ := norm_real q
    rw [e]; exact_mod_cast pos
  · rw [norm_infinite h]; exact EReal.zero_lt_top

/-- The kernel's cosine is the reference's, negated. -/
theorem cosRow_eq (p g : Fin 3 → EReal) : cosRow p g = -cosine p g := by
  unfold cosRow cosine
  rcases real_or_infinite p with ⟨q, rfl⟩ | hp
  · rcases real_or_infinite g with ⟨w, rfl⟩ | hg
    · obtain ⟨a, pa, ea⟩ := norm_real q
      obtain ⟨b, pb, eb⟩ := norm_real w
      rw [ea, eb]
      simp only [div_real pa.ne', div_real pb.ne', ← EReal.coe_mul, sum_coe, ← EReal.coe_zero, ← EReal.coe_sub, ← EReal.coe_neg]
      rw [div_real (mul_pos pa pb).ne']
      refine congrArg _ ?_
      rw [zero_sub, neg_div, Finset.sum_div]
      refine congrArg _ (Finset.sum_congr rfl fun d _ => ?_)
      rw [div_mul_div_comm]
    · rw [norm_infinite hg, EReal.mul_top_of_pos (norm_positive fun d => (q d : EReal))]
      simp [div_top]
  · rw [norm_infinite hp, EReal.top_mul_of_pos (norm_positive g)]
    simp [div_top]

end Cert.Loss

end
-- ==== Proof.Values.Normal.lean ====
/- The normalisation: the variance from the Gram matrix is the variance of the hidden layer. -/
module

public import proofs.«01_k».proof.Proof.Values.Reals

@[expose] public section

set_option maxRecDepth 16384

noncomputable section

namespace Cert.Loss

open Idealize.ShloMosaic Cert.KernelIdeal Cert.KernelIdeal.Gen Cert.KernelIdeal.Fused

/-- A column's mean of squares about the mean, from the sums of the entries and of their squares. -/
theorem spread (x : Fin 100000 → ℝ) :
    (∑ r, (x r - (∑ r, x r) / 100000) * (x r - (∑ r, x r) / 100000)) / 100000
      = (∑ r, x r * x r) / 100000 - ((∑ r, x r) / 100000) * ((∑ r, x r) / 100000) := by
  generalize hm : (∑ r, x r) / 100000 = μ
  have hs : ∑ r, x r = 100000 * μ := by rw [← hm]; ring
  have h : ∑ r, (x r - μ) * (x r - μ) = (∑ r, x r * x r) - 2 * μ * (∑ r, x r) + 100000 * (μ * μ) := by
    have e : ∀ r, (x r - μ) * (x r - μ) = x r * x r - 2 * μ * x r + μ * μ := fun r => by ring
    rw [Finset.sum_congr rfl fun r _ => e r, Finset.sum_add_distrib, Finset.sum_sub_distrib, ← Finset.mul_sum]
    simp
  rw [h, hs]
  ring

/-- The spread is never negative. -/
theorem spread_nonneg (x : Fin 100000 → ℝ) :
    0 ≤ (∑ r, x r * x r) / 100000 - ((∑ r, x r) / 100000) * ((∑ r, x r) / 100000) := by
  rw [← spread]
  exact div_nonneg (Finset.sum_nonneg fun r _ => mul_self_nonneg _) (by norm_num)

/-- The reference's column mean. -/
def colMean (h : Fin 100000 → EReal) : EReal := Ideal.div (∑ r, h r) (Ideal.ofBits .f32 0x47C35000#32 : EReal)

/-- The reference's column variance. -/
def colVar (h : Fin 100000 → EReal) : EReal :=
  Ideal.div (∑ r, (h r - colMean h) * (h r - colMean h))
    ((Ideal.ofBits .f32 0x47C35000#32 : EReal) - ((((0#32 : BitVec 32).toInt : ℝ)) : EReal))

/-- The reference's normalised entry. -/
def normed (h : Fin 100000 → EReal) (ga be : EReal) (r : Fin 100000) : EReal :=
  Ideal.div (h r - colMean h) (Ideal.sqrt (colVar h + (Ideal.ofBits .f32 0x3A83126F#32 : EReal))) * ga + be

/-- A real column plus a bias has the column's mean plus the bias. -/
theorem colMean_real (x : Fin 100000 → ℝ) (b : ℝ) :
    colMean (fun r => (x r : EReal) + (b : EReal)) = (((∑ r, x r) / 100000 + b : ℝ) : EReal) := by
  unfold colMean
  simp only [← EReal.coe_add]
  rw [sum_coe, count_real, div_real (by norm_num)]
  refine congrArg _ ?_
  rw [Finset.sum_add_distrib]
  simp
  ring

/-- The centred variance of a real column plus a bias is the column's mean square less its squared mean. -/
theorem colVar_real (x : Fin 100000 → ℝ) (b : ℝ) :
    colVar (fun r => (x r : EReal) + (b : EReal))
      = (((∑ r, x r * x r) / 100000 - ((∑ r, x r) / 100000) * ((∑ r, x r) / 100000) : ℝ) : EReal) := by
  have hz : (((0#32 : BitVec 32).toInt : ℝ) : EReal) = ((0 : ℝ) : EReal) := by simp
  unfold colVar
  rw [colMean_real, count_real, hz]
  simp only [← EReal.coe_add, ← EReal.coe_sub, ← EReal.coe_mul]
  rw [sum_coe, div_real (by norm_num), ← spread]
  refine congrArg _ ?_
  rw [sub_zero]
  refine congrArg (· / (100000 : ℝ)) (Finset.sum_congr rfl fun r _ => ?_)
  ring

/-- The kernel's mean of reals is real: the sum over the number of rows, plus the bias. -/
theorem meanOf_real (t b : ℝ) : meanOf (t : EReal) (b : EReal) = ((t / 100000 + b : ℝ) : EReal) := by
  unfold meanOf
  rw [invN_eq, ← EReal.coe_mul, ← EReal.coe_add, mul_one_div]

/-- The kernel's scale of a real column. -/
theorem scaleOf_real (x : Fin 100000 → ℝ) (b g : ℝ) : ∃ s : ℝ,
    scaleOf ((∑ r, x r * x r : ℝ) : EReal) ((∑ r, x r : ℝ) : EReal) (b : EReal) (g : EReal) = ((g * s : ℝ) : EReal)
    ∧ ∀ y : ℝ, Ideal.div (y : EReal) (Ideal.sqrt (colVar (fun r => (x r : EReal) + (b : EReal)) + (Ideal.ofBits .f32 0x3A83126F#32 : EReal)))
        = ((y * s : ℝ) : EReal) := by
  obtain ⟨e, pos, he⟩ := small_real
  have hv := spread_nonneg x
  rw [colVar_real]
  generalize hvv : (∑ r, x r * x r) / 100000 - ((∑ r, x r) / 100000) * ((∑ r, x r) / 100000) = v at hv ⊢
  have hp : 0 < v + e := by linarith
  refine ⟨(Real.sqrt (v + e))⁻¹, ?_, fun y => ?_⟩
  · unfold scaleOf
    rw [meanOf_real, invN_eq, two_real, he]
    simp only [← EReal.coe_add, ← EReal.coe_sub, ← EReal.coe_mul]
    have hq : ((∑ r, x r * x r) + 2 * b * (∑ r, x r)) * (1 / 100000) + b * b
        - ((∑ r, x r) / 100000 + b) * ((∑ r, x r) / 100000 + b) + e = v + e := by rw [← hvv]; ring
    rw [hq, Ideal.rsqrt_coe, if_neg (not_lt.mpr hp.le), if_neg hp.ne', ← EReal.coe_mul]
  · rw [he, ← EReal.coe_add, sqrt_real hp.le, div_real (Real.sqrt_pos.mpr hp).ne', div_eq_mul_inv]

/-- The kernel's scale and shift give the reference's normalised entry. -/
theorem normed_eq (x : Fin 100000 → ℝ) (b g : ℝ) (be : EReal) (r : Fin 100000) :
    (x r : EReal) * scaleOf ((∑ r, x r * x r : ℝ) : EReal) ((∑ r, x r : ℝ) : EReal) (b : EReal) (g : EReal)
      + (be - (meanOf ((∑ r, x r : ℝ) : EReal) (b : EReal) - (b : EReal))
          * scaleOf ((∑ r, x r * x r : ℝ) : EReal) ((∑ r, x r : ℝ) : EReal) (b : EReal) (g : EReal))
      = normed (fun r => (x r : EReal) + (b : EReal)) (g : EReal) be r := by
  obtain ⟨s, hs, hd⟩ := scaleOf_real x b g
  unfold normed
  rw [colMean_real, hs, meanOf_real]
  beta_reduce
  rw [← EReal.coe_add (x r) b, ← EReal.coe_sub (x r + b), hd]
  simp only [← EReal.coe_mul, ← EReal.coe_sub]
  rw [sub_eq_add_neg, add_comm be, ← add_assoc, ← EReal.coe_neg, ← EReal.coe_add]
  refine congrArg (fun z : ℝ => (z : EReal) + be) ?_
  ring

end Cert.Loss

end
-- ==== Proof.Values.Label.lean ====
/- The reference's picked log-probability: the label clamped into the twenty classes, the range check that always
   passes, and the gather along the class axis. -/
module

public import proofs.«01_k».proof.Proof.Gen.ReferenceIdeal.Read
public import proofs.«01_k».proof.Proof.Values.Spec
public import Idealize.ShloMosaic.Lib.ReduceAll
public import Idealize.ShloMosaic.Lib.Affine
public import Idealize.ShloMosaic.Lib.Pointwise
public import Idealize.ShloMosaic.Lib.Pointwise.IndexBridge

@[expose] public section

set_option maxRecDepth 16384

noncomputable section

namespace Cert.ReferenceIdeal.Rows

open Cert.ReferenceIdeal Cert.ReferenceIdeal.Gen Cert.ReferenceIdeal.Read
open Idealize.ShloMosaic Idealize.SL.Sem

/-! ### The label's word -/

/-- A label's word clamped between 0 and 19. -/
def clampWord (s : BitVec 32) : BitVec 32 := IntOp.minsi 19#32 (IntOp.maxsi 0#32 s)

/-- The clamped word's integer is the label's integer clamped. -/
theorem clampWord_toInt (s : BitVec 32) : (clampWord s).toInt = min 19 (max 0 s.toInt) := by
  have h19 : (19#32 : BitVec 32).toInt = 19 := by decide
  have h0 : (0#32 : BitVec 32).toInt = 0 := by decide
  unfold clampWord IntOp.minsi IntOp.maxsi
  simp only [BitVec.slt_iff_toInt_lt]
  split_ifs with a b b <;> omega

/-- The class a label's word names. -/
def classOf (s : BitVec 32) : Fin 20 := ⟨min (clampWord s).toInt.toNat 19, by omega⟩

/-- The named class is the label's integer clamped between 0 and 19. -/
theorem classOf_val (s : BitVec 32) : ((classOf s).val : ℤ) = min 19 (max 0 s.toInt) := by
  have h := clampWord_toInt s
  show ((min (clampWord s).toInt.toNat 19 : ℕ) : ℤ) = _
  omega

/-- The clamped word is never negative. -/
theorem clampWord_not_neg (s : BitVec 32) : IntOp.cmpi .slt (clampWord s) 0#32 = 0#1 := by
  have h := clampWord_toInt s
  have h0 : (0#32 : BitVec 32).toInt = 0 := by decide
  have : ¬ (clampWord s).toInt < (0#32 : BitVec 32).toInt := by omega
  show BitVec.ofBool (decide ((clampWord s).toInt < (0#32 : BitVec 32).toInt)) = 0#1
  rw [decide_eq_false this]; rfl

/-- The clamped word passes the lower check. -/
theorem clampWord_ge (s : BitVec 32) : IntOp.cmpi .sge (clampWord s) 0#32 = 1#1 := by
  have h := clampWord_toInt s
  have h0 : (0#32 : BitVec 32).toInt = 0 := by decide
  have : (0#32 : BitVec 32).toInt ≤ (clampWord s).toInt := by omega
  show BitVec.ofBool (decide ((0#32 : BitVec 32).toInt ≤ (clampWord s).toInt)) = 1#1
  rw [decide_eq_true this]; rfl

/-- The clamped word passes the upper check. -/
theorem clampWord_le (s : BitVec 32) : IntOp.cmpi .sle (clampWord s) 19#32 = 1#1 := by
  have h := clampWord_toInt s
  have h0 : (19#32 : BitVec 32).toInt = 19 := by decide
  have : (clampWord s).toInt ≤ (19#32 : BitVec 32).toInt := by omega
  show BitVec.ofBool (decide ((clampWord s).toInt ≤ (19#32 : BitVec 32).toInt)) = 1#1
  rw [decide_eq_true this]; rfl

/-! ### The gather along the class axis -/

section Pick
variable {α : Type}

/-- One pick per row of an `N` by `C` array: the row is a batching axis, the class is the start index. -/
abbrev pickDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The pick's start index sits at the row's only entry. -/
theorem pick_start_at {N C : Nat}
    (wf : GatherDims.WF ⟨2, ![N, C]⟩ ⟨3, ![N, 1, 1]⟩ ⟨2, ![N, 1]⟩ [] [1] [0] [1] [0] 2 ![1, 1]) (r : Fin N)
    (k : Fin (pickDims N C wf).startIndexMap.length) : (pickDims N C wf).siIdx (ix2 r (0 : Fin 1)) k = ix3 r (0 : Fin 1) (0 : Fin 1) := by
  have hk : k.val = 0 := by
    have := k.isLt
    simp only [List.length_cons, List.length_nil] at this
    omega
  funext b
  refine Fin.ext ?_
  match b with
  | ⟨0, _⟩ => rfl
  | ⟨1, _⟩ => rfl
  | ⟨2, _⟩ => exact hk

/-- A row's pick reads the row at its start index, cut to the last class. -/
theorem pick_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (s : IVec ⟨3, ![N, 1, 1]⟩ w) (r : Fin N) :
    Host.gather (pickDims N C wf) x s (ix2 r (0 : Fin 1))
      = x (ix2 r ⟨min (s (ix3 r (0 : Fin 1) (0 : Fin 1))).toInt.toNat (C - 1), by omega⟩) := by
  unfold Host.gather
  refine congrArg x (funext fun a => Fin.ext ?_)
  show (pickDims N C wf).start (ix2 r (0 : Fin 1)) s a + (pickDims N C wf).batchCoord (ix2 r (0 : Fin 1)) a
      + (pickDims N C wf).offCoord (ix2 r (0 : Fin 1)) a = _
  have two : a = (0 : Fin 2) ∨ a = (1 : Fin 2) := by
    match a with
    | ⟨0, _⟩ => exact Or.inl rfl
    | ⟨1, _⟩ => exact Or.inr rfl
  rcases two with rfl | rfl
  · rw [GatherDims.start_batching _ _ _ _ (List.mem_singleton.mpr rfl),
      GatherDims.offCoord_eq_zero _ _ _ (fun q => ((GatherDims.mem_sKept _ _).mp q).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun q => by simp at q),
      GatherDims.offCoord_eq_zero _ _ _ (fun q => ((GatherDims.mem_sKept _ _).mp q).1 (List.mem_singleton.mpr rfl))]
    simp only [Nat.add_zero]
    unfold GatherDims.start
    rw [dif_pos (show (1 : Fin 2) ∈ (pickDims N C wf).startIndexMap from List.mem_singleton.mpr rfl), pick_start_at]
    rfl

end Pick

/-! ### The picked log-probability -/

variable (x0 : Vec Ideal S100000x64 .f32) (x3 : Vec Ideal S100000 .i32) (x11 : Vec Ideal S64x20 .f32) (x12 : Vec Ideal S20 .f32)

/-- The reference's label is the clamped word. -/
theorem label_word (r : Fin 100000) : val_main_v35 (F := Ideal) x3 (ix1 r) = clampWord (x3 (ix1 r)) := by
  unfold clampWord
  pointwise [val_main_v35, val_main_call2_v4, val_main_call2_v3, val_main_call2_v2, val_main_call2_v1, val_main_call2_v0, val_main_c_3, val_main_c_4]
  rfl

/-- The wrapped label is the clamped label: it is never negative. -/
theorem wrapped (r : Fin 100000) : val_main_call4_v4 (F := Ideal) x3 (ix2 r (0 : Fin 1)) = clampWord (x3 (ix1 r)) := by
  have e : val_main_v37 (F := Ideal) x3 (ix2 r (0 : Fin 1)) = clampWord (x3 (ix1 r)) := by
    rw [← label_word]
    pointwise [val_main_v37]
  rw [val_main_call4_v4_apply, val_main_call4_v1_apply, val_main_call4_v0_apply, val_main_call4_c_apply, e, clampWord_not_neg]
  rfl

/-- The gather's start index is the clamped word. -/
theorem start_word (r : Fin 100000) : val_main_call4_v5 (F := Ideal) x3 (ix3 r (0 : Fin 1) (0 : Fin 1)) = clampWord (x3 (ix1 r)) := by
  rw [← wrapped]
  pointwise [val_main_call4_v5]

/-- The range check passes at every row. -/
theorem in_range (r : Fin 100000) : val_main_call4_v11 (F := Ideal) x3 (ix3 r (0 : Fin 1) (0 : Fin 1)) = 1#1 := by
  rw [val_main_call4_v11_apply, val_main_call4_v7_apply, val_main_call4_v10_apply, val_main_call4_v6_apply, val_main_call4_c_2_apply,
    val_main_call4_v9_apply, val_main_call4_v8_apply, val_main_call4_c_1_apply, start_word, clampWord_ge, clampWord_le]
  rfl

/-- The gather's range check always passes. -/
theorem check_passes (r : Fin 100000) : val_main_call4_v12 (F := Ideal) x3 (ix2 r (0 : Fin 1)) = 1#1 := by
  unfold val_main_call4_v12
  refine Host.reduce_andi_one _ _ _ _ _ (val_main_call4_c_3_apply _) fun i => ?_
  idx_vars i
  obtain rfl : i1 = 0 := Subsingleton.elim _ _
  obtain rfl : i2 = 0 := Subsingleton.elim _ _
  exact in_range x3 i0

/-- The picked entry is the log-probability of the label's class. -/
theorem picked (r : Fin 100000) :
    val_main_v38 (F := Ideal) x0 x3 x11 x12 (ix2 r (0 : Fin 1)) = val_main_v36 (F := Ideal) x0 x11 x12 (ix2 r (classOf (x3 (ix1 r)))) := by
  rw [val_main_v38_apply, check_passes]
  refine Eq.trans (show _ = val_main_call4_v13 (F := Ideal) x0 x3 x11 x12 (ix2 r (0 : Fin 1)) from rfl) ?_
  unfold val_main_call4_v13
  generalize val_main_v36 (F := Ideal) x0 x11 x12 = y
  refine (pick_apply (by decide) _ y (val_main_call4_v5 (F := Ideal) x3) r).trans ?_
  refine congrArg y (congrArg (ix2 r) (Fin.ext ?_))
  show min (val_main_call4_v5 (F := Ideal) x3 (ix3 r (0 : Fin 1) (0 : Fin 1))).toInt.toNat (20 - 1) = _
  rw [start_word]
  rfl

/-! ### The variance -/

variable (x5 : Vec Ideal S64x64 .f32) (x6 : Vec Ideal S64 .f32)

/-- The divisor's check passes: a hundred thousand less zero is positive. -/
theorem divisor_positive : val_main_call0_v12 (F := Ideal) ix0 = 1#1 := by
  rw [val_main_call0_v12_apply, val_main_call0_cst_3_apply]
  show BitVec.ofBool (decide ((Ideal.ofBits .f32 0x00000000#32 : EReal) < val_main_call0_v8 (F := Ideal) ix0)) = 1#1
  have e : val_main_call0_v8 (F := Ideal) ix0 = ((100000 : ℝ) : EReal) := by
    show (Ideal.ofBits .f32 0x47C35000#32 : EReal) - ((((0#32 : BitVec 32).toInt : ℝ)) : EReal) = _
    have h : (Ideal.ofBits .f32 0x47C35000#32 : EReal) = ((100000 : ℝ) : EReal) := by
      simp [Ideal.ofBits, Ideal.ieee, -EReal.coe_mul]; norm_num
    rw [h]
    simp
  rw [e, Ideal.ofBits_zero_f32, decide_eq_true (by exact_mod_cast (by norm_num : (0 : ℝ) < 100000))]
  rfl

/-- The variance is the checked quotient. -/
theorem variance (c : Fin 64) : val_main_v7 (F := Ideal) x0 x5 x6 (ix1 c) = val_main_call0_v11 (F := Ideal) x0 x5 x6 (ix1 c) := by
  have e : (broadcastInDim S64 ![] bcast_S_S64 (val_main_call0_v12 (F := Ideal))) (ix1 c) = 1#1 := by
    refine Eq.trans ?_ divisor_positive
    pointwise []
  unfold val_main_v7
  show Scalar.select ((broadcastInDim S64 ![] bcast_S_S64 (val_main_call0_v12 (F := Ideal))) (ix1 c)) _ _ = _
  rw [e]
  rfl

end Cert.ReferenceIdeal.Rows

end
-- ==== Proof.Values.Entropy.lean ====
/- A row's cross entropy: the picked log-probability, negated. -/
module

public import proofs.«01_k».proof.Proof.Values.Reals
public import proofs.«01_k».proof.Proof.Values.Label

@[expose] public section

set_option maxRecDepth 16384

noncomputable section

namespace Cert.Loss

open Idealize.ShloMosaic Cert.KernelIdeal Cert.KernelIdeal.Gen Cert.KernelIdeal.Fused

open Cert.ReferenceIdeal.Rows (classOf classOf_val)

/-- The reference's greatest score. -/
def refTop (x : Fin 20 → EReal) : EReal := max (Ideal.ofBits .f32 0xFF800000#32 : EReal) (topScore x)

/-- The reference's log-probability of a class. -/
def logProb (x : Fin 20 → EReal) (c : Fin 20) : EReal :=
  x c - refTop x - Ideal.log (∑ k, Ideal.exp (x k - refTop x))

/-- The reference's indicator of a valid label. -/
def validWord (s : BitVec 32) : EReal := FloatOps.uitofp (F := Ideal) .f32 (IntOp.cmpi .ne s 4294967295#32)

/-- The two indicators agree. -/
theorem validWord_eq (s : BitVec 32) : neInd (num s) (negOne (F := Ideal)) = validWord s := by
  have e : validWord s = (((BitVec.ofBool (s != 4294967295#32)).toNat : ℝ) : EReal) := rfl
  rw [e]
  unfold neInd num
  rw [negOne_real]
  by_cases h : s = 4294967295#32
  · subst h
    have h : (4294967295#32 : BitVec 32).toInt = -1 := by decide
    rw [h, if_pos (by norm_num)]
    simp
  · rw [if_neg]
    · have b : (s != 4294967295#32) = true := bne_iff_ne.mpr h
      rw [b]
      simp
    · intro q
      have q' : (s.toInt : ℝ) = -1 := by exact_mod_cast q
      have q'' : s.toInt = -1 := by exact_mod_cast q'
      exact h (BitVec.eq_of_toInt_eq (by rw [q'']; decide))

/-- The indicator is real and not negative. -/
theorem validWord_real (s : BitVec 32) : ∃ v : ℝ, 0 ≤ v ∧ validWord s = (v : EReal) :=
  ⟨((BitVec.ofBool (s != 4294967295#32)).toNat : ℝ), Nat.cast_nonneg _, rfl⟩

/-- The greatest of real scores is one of them. -/
theorem topScore_real (x : Fin 20 → ℝ) : ∃ M : ℝ, topScore (fun c => (x c : EReal)) = (M : EReal) := by
  have e : topScore (fun c => (x c : EReal)) = Finset.univ.sup fun c => (x c : EReal) := by
    unfold topScore
    rw [bottom_literal]
    rfl
  obtain ⟨c, -, hc⟩ := Finset.exists_mem_eq_sup (Finset.univ : Finset (Fin 20)) ⟨0, Finset.mem_univ 0⟩ fun c => (x c : EReal)
  exact ⟨x c, e.trans hc⟩

/-- The clamped label is the number of its class. -/
theorem clampLabel_num (s : BitVec 32) : clampLabel (num s) = (((classOf s).val : ℝ) : EReal) := by
  have h := classOf_val s
  unfold clampLabel num
  have up : Monotone fun z : ℝ => (z : EReal) := EReal.coe_strictMono.monotone
  rw [nineteen_real, ← EReal.coe_zero, ← up.map_max, ← up.map_min]
  refine congrArg _ ?_
  have h' : (((classOf s).val : ℤ) : ℝ) = ((min 19 (max 0 s.toInt) : ℤ) : ℝ) := congrArg _ h
  push_cast at h'
  exact h'.symm

/-- A class's number is the class. -/
theorem classNo_val (c : Fin 20) : classNo c = ((c.val : ℝ) : EReal) := by
  unfold classNo
  have h : (BitVec.ofNat 32 c.val).toInt = (c.val : ℤ) := by revert c; decide
  rw [h, Int.cast_natCast]

/-- The indicator sum picks the label's score. -/
theorem picked_score (x : Fin 20 → ℝ) (s : BitVec 32) :
    ∑ c : Fin 20, (x c : EReal) * eqInd (clampLabel (num s)) (classNo c) = (x (classOf s) : EReal) := by
  rw [Finset.sum_eq_single (classOf s)]
  · rw [clampLabel_num, classNo_val, eqInd, if_pos rfl, mul_one]
  · intro c _ hc
    rw [clampLabel_num, classNo_val, eqInd, if_neg, mul_zero]
    intro q
    have q' : ((classOf s).val : ℝ) = (c.val : ℝ) := by exact_mod_cast q
    exact hc (Fin.ext (by exact_mod_cast q'.symm))
  · intro h
    exact absurd (Finset.mem_univ _) h

/-- A row of real scores: the kernel's cross entropy is the reference's. -/
theorem ceRow_eq (x : Fin 20 → ℝ) (s : BitVec 32) :
    ceRow (fun c => (x c : EReal)) (num s) = -(logProb (fun c => (x c : EReal)) (classOf s)) * validWord s := by
  obtain ⟨M, hM⟩ := topScore_real x
  have hpos : 0 < ∑ c, Real.exp (x c - M) := Finset.sum_pos (fun c _ => Real.exp_pos _) ⟨0, Finset.mem_univ 0⟩
  unfold ceRow logProb refTop
  rw [picked_score, validWord_eq, hM, bottom_literal, max_eq_right bot_le]
  refine congrArg (· * validWord s) ?_
  simp only [← EReal.coe_sub, Ideal.exp_coe]
  rw [sum_coe, Ideal.log_coe, if_neg (not_le.mpr hpos)]
  simp only [← EReal.coe_sub, ← EReal.coe_add, ← EReal.coe_neg]
  refine congrArg _ ?_
  ring

end Cert.Loss

end
-- ==== Proof.Values.Equation.lean ====
/- The two losses agree: the kernel's with its Gram matrix and the reference's with its hidden layer. -/
module

public import proofs.«01_k».proof.Proof.Values.Cosine
public import proofs.«01_k».proof.Proof.Values.Normal
public import proofs.«01_k».proof.Proof.Values.Entropy

@[expose] public section

set_option maxRecDepth 16384

noncomputable section

namespace Cert.Loss

open Idealize.ShloMosaic Cert.KernelIdeal Cert.KernelIdeal.Gen Cert.KernelIdeal.Fused

open Cert.ReferenceIdeal.Rows (classOf)

namespace Data

variable (D : Data)

/-- The reference's hidden layer. -/
def refHid (r : Fin 100000) (c : Fin 64) : EReal := (∑ k, D.feat r k * D.W1 k c) + D.b1 c
/-- The reference's predicted displacement. -/
def refPred (r : Fin 100000) (d : Fin 3) : EReal :=
  (∑ c, max (normed (fun q => D.refHid q c) (D.ga c) (D.be c) r) 0 * D.W2 c d) + D.b2 d
/-- The reference's class scores. -/
def refScore (r : Fin 100000) (c : Fin 20) : EReal := (∑ k, D.feat r k * D.Ws k c) + D.bs c

/-- The reference's loss. -/
def refLoss : EReal :=
  Ideal.div (∑ r, -(logProb (D.refScore r) (classOf (D.seg r))) * validWord (D.seg r)) ((∑ r, validWord (D.seg r)) + tiny)
  + Ideal.div (∑ r, (∑ d, FloatOps.absf (F := Ideal) (φ := .f32) (D.refPred r d - D.disp r d)) * validWord (D.inst r))
      ((∑ r, validWord (D.inst r)) + tiny)
  + Ideal.div (∑ r, -(cosine (D.refPred r) (D.disp r)) * validWord (D.inst r)) ((∑ r, validWord (D.inst r)) + tiny)

/-- The arguments the two orders of summation need finite. -/
structure Finite : Prop where
  feat : ∀ r k, ∃ x : ℝ, D.feat r k = (x : EReal)
  W1 : ∀ k c, ∃ x : ℝ, D.W1 k c = (x : EReal)
  b1 : ∀ c, ∃ x : ℝ, D.b1 c = (x : EReal)
  ga : ∀ c, ∃ x : ℝ, D.ga c = (x : EReal)
  Ws : ∀ k c, ∃ x : ℝ, D.Ws k c = (x : EReal)
  bs : ∀ c, ∃ x : ℝ, D.bs c = (x : EReal)

/-- The column's sum from the features' column sums. -/
theorem sum_of_sums (f : Fin 100000 → Fin 64 → ℝ) (w : Fin 64 → ℝ) :
    ∑ k, (∑ r, f r k) * w k = ∑ r, ∑ k, w k * f r k := by
  rw [Finset.sum_comm]
  refine Finset.sum_congr rfl fun k _ => ?_
  rw [Finset.sum_mul]
  exact Finset.sum_congr rfl fun r _ => mul_comm _ _

/-- The column's sum of squares from the Gram matrix. -/
theorem squares_of_gram (f : Fin 100000 → Fin 64 → ℝ) (w : Fin 64 → ℝ) :
    ∑ k, w k * ∑ l, (∑ r, f r k * f r l) * w l = ∑ r, (∑ k, w k * f r k) * ∑ k, w k * f r k := by
  simp only [Finset.sum_mul_sum, Finset.sum_mul, Finset.mul_sum]
  rw [Finset.sum_comm (s := (Finset.univ : Finset (Fin 100000)))]
  refine Finset.sum_congr rfl fun k _ => ?_
  rw [Finset.sum_comm (s := (Finset.univ : Finset (Fin 100000)))]
  refine Finset.sum_congr rfl fun l _ => Finset.sum_congr rfl fun r _ => ?_
  ring

/-- The normalised hidden layers agree. -/
theorem norm_eq (h : D.Finite) (r : Fin 100000) (c : Fin 64) :
    D.hid r c * D.scale c + D.shift c = normed (fun q => D.refHid q c) (D.ga c) (D.be c) r := by
  choose f hf using h.feat
  choose w hw using h.W1
  obtain ⟨b, hb⟩ := h.b1 c
  obtain ⟨g, hg⟩ := h.ga c
  have e1 : ∀ q, D.hid q c = ((∑ k, w k c * f q k : ℝ) : EReal) := fun q => by
    unfold hid
    simp only [hf, hw, ← EReal.coe_mul]
    exact sum_coe _ _
  have e2 : D.hsum c = ((∑ q, ∑ k, w k c * f q k : ℝ) : EReal) := by
    unfold hsum colDot colsum
    simp only [hf, hw, ← EReal.coe_mul, sum_coe]
    rw [sum_of_sums f fun k => w k c]
  have e3 : gramDiag D.W1 D.gram c = ((∑ q, (∑ k, w k c * f q k) * (∑ k, w k c * f q k) : ℝ) : EReal) := by
    unfold gramDiag gram
    simp only [hf, hw, ← EReal.coe_mul, sum_coe]
    rw [squares_of_gram f fun k => w k c]
  have e4 : (fun q => D.refHid q c) = fun q => ((∑ k, w k c * f q k : ℝ) : EReal) + (b : EReal) := funext fun q => by
    unfold refHid
    simp only [hf, hw, hb, ← EReal.coe_mul, sum_coe]
    refine congrArg (fun z : ℝ => (z : EReal) + (b : EReal)) (Finset.sum_congr rfl fun k _ => mul_comm _ _)
  unfold shift scale
  rw [e1, e2, e3, e4, hb, hg]
  exact normed_eq (fun q => ∑ k, w k c * f q k) b g (D.be c) r

/-- The predicted displacements agree. -/
theorem pred_eq (h : D.Finite) : D.pred = D.refPred := funext fun r => funext fun d => by
  unfold pred refPred
  refine congrArg (· + D.b2 d) (Finset.sum_congr rfl fun c _ => ?_)
  rw [norm_eq D h, mul_comm]

/-- The class scores agree. -/
theorem score_eq : D.score = D.refScore := funext fun r => funext fun c => by
  unfold score refScore
  exact congrArg (· + D.bs c) (Finset.sum_congr rfl fun k _ => mul_comm _ _)

/-- The class scores are real. -/
theorem score_real (h : D.Finite) (r : Fin 100000) : ∃ x : Fin 20 → ℝ, D.refScore r = fun c => (x c : EReal) := by
  choose f hf using h.feat
  choose w hw using h.Ws
  choose b hb using h.bs
  refine ⟨fun c => (∑ k, f r k * w k c) + b c, funext fun c => ?_⟩
  unfold refScore
  simp only [hf, hw, hb, ← EReal.coe_mul, sum_coe, ← EReal.coe_add]

/-- A row's cross entropies agree. -/
theorem entropy_eq (h : D.Finite) (r : Fin 100000) :
    ceRow (D.score r) (num (D.seg r)) = -(logProb (D.refScore r) (classOf (D.seg r))) * validWord (D.seg r) := by
  obtain ⟨x, hx⟩ := D.score_real h r
  rw [score_eq, hx]
  exact ceRow_eq x (D.seg r)

/-- The number of masked points, with the small number, is a positive real. -/
theorem masked_real : ∃ z : ℝ, 0 < z ∧ (∑ r, validWord (D.inst r)) + tiny = (z : EReal) := by
  choose v pos hv using fun r => validWord_real (D.inst r)
  obtain ⟨e, pe, he⟩ := tiny_real
  refine ⟨(∑ r, v r) + e, add_pos_of_nonneg_of_pos (Finset.sum_nonneg fun r _ => pos r) pe, ?_⟩
  unfold tiny
  simp only [hv, sum_coe]
  rw [he, EReal.coe_add]

/-- A sum's quotient by a positive real is the sum of the quotients. -/
theorem div_add {z : ℝ} (h : 0 < z) (x y : EReal) :
    Ideal.div (x + y) (z : EReal) = Ideal.div x (z : EReal) + Ideal.div y (z : EReal) := by
  rw [Ideal.div_coe h.ne', Ideal.div_coe h.ne', Ideal.div_coe h.ne']
  refine EReal.right_distrib_of_nonneg_of_ne_top ?_ (EReal.coe_ne_top _) x y
  exact_mod_cast (one_div_pos.mpr h).le

/-- The kernel's loss is the reference's. -/
theorem loss_eq (h : D.Finite) : D.kernelLoss = D.refLoss := by
  obtain ⟨z, pz, hz⟩ := D.masked_real
  have m : ∀ r, D.mask r = validWord (D.inst r) := fun r => validWord_eq _
  have d : ∀ r, D.dist r = ∑ d, FloatOps.absf (F := Ideal) (φ := .f32) (D.refPred r d - D.disp r d) := fun r => by
    unfold dist
    rw [pred_eq D h]
    rfl
  unfold kernelLoss refLoss
  simp only [entropy_eq D h, validWord_eq, m, d, cosRow_eq, pred_eq D h]
  rw [hz, div_add pz, add_assoc]

end Data

end Cert.Loss

end
-- ==== Proof.Values.Reference.lean ====
/- The reference's stages over the extended reals, read at an element. -/
module

public import proofs.«01_k».proof.Proof.Gen.ReferenceIdeal.Read
public import proofs.«01_k».proof.Proof.Values.Equation

@[expose] public section

set_option maxRecDepth 16384

noncomputable section

namespace Cert.ReferenceIdeal.Rows

open Cert.ReferenceIdeal Cert.ReferenceIdeal.Gen Cert.ReferenceIdeal.Read
open Idealize.ShloMosaic Idealize.SL.Sem

variable (x0 : Vec Ideal S100000x64 .f32) (x1 x2 : Vec Ideal S100000x3 .f32) (x3 x4 : Vec Ideal S100000 .i32)
  (x5 : Vec Ideal S64x64 .f32) (x6 x7 x8 : Vec Ideal S64 .f32) (x9 : Vec Ideal S64x3 .f32) (x10 : Vec Ideal S3 .f32)
  (x11 : Vec Ideal S64x20 .f32) (x12 : Vec Ideal S20 .f32)

/-- The hidden layer: the row times the weights' column, plus the bias. -/
theorem hidden (r : Fin 100000) (c : Fin 64) :
    val_main_v3 (F := Ideal) x0 x5 x6 (ix2 r c) = (∑ k : Fin 64, x0 (ix2 r k) * x5 (ix2 k c)) + x6 (ix1 c) := by
  pointwise [val_main_v3, val_main_v0, val_main_v2, val_main_v1]

/-- A column's mean: its sum over the number of rows. -/
theorem mean (c : Fin 64) :
    val_main_v6 (F := Ideal) x0 x5 x6 (ix1 c)
      = Ideal.div (∑ r : Fin 100000, val_main_v3 (F := Ideal) x0 x5 x6 (ix2 r c)) (Ideal.ofBits .f32 0x47C35000#32 : EReal) := by
  pointwise [val_main_v6, val_main_v4, val_main_v5, val_main_cst, val_main_cst_0]

/-- The variance's own mean is the same mean. -/
theorem mean_again (c : Fin 64) :
    val_main_call0_v3 (F := Ideal) x0 x5 x6 (ix2 0 c) = val_main_v6 (F := Ideal) x0 x5 x6 (ix1 c) := by
  pointwise [val_main_v6, val_main_v4, val_main_v5, val_main_cst, val_main_cst_0, val_main_call0_v3, val_main_call0_v1, val_main_call0_v0,
    val_main_call0_v2, val_main_call0_cst, val_main_call0_cst_0]

/-- A column's centred squares, summed and divided by the number of rows less the correction 0. -/
theorem var_ratio (c : Fin 64) :
    val_main_call0_v11 (F := Ideal) x0 x5 x6 (ix1 c)
      = Ideal.div (∑ r : Fin 100000, (val_main_v3 (F := Ideal) x0 x5 x6 (ix2 r c) - val_main_call0_v3 (F := Ideal) x0 x5 x6 (ix2 0 c))
          * (val_main_v3 (F := Ideal) x0 x5 x6 (ix2 r c) - val_main_call0_v3 (F := Ideal) x0 x5 x6 (ix2 0 c)))
        ((Ideal.ofBits .f32 0x47C35000#32 : EReal) - ((((0#32 : BitVec 32).toInt : ℝ)) : EReal)) := by
  pointwise [val_main_call0_v11, val_main_call0_v10, val_main_call0_v9, val_main_call0_v8, val_main_call0_v7, val_main_call0_v6, val_main_call0_v5,
    val_main_call0_v4, val_main_call0_cst_1, val_main_call0_cst_2, val_main_c]
  try rfl

/-- The normalised entry: centred, over the root of the variance and a small number, times the gain, plus the offset. -/
theorem normed (r : Fin 100000) (c : Fin 64) :
    val_main_v22 (F := Ideal) x0 x5 x6 x7 x8 (ix2 r c)
      = Ideal.div (val_main_v3 (F := Ideal) x0 x5 x6 (ix2 r c) - val_main_v6 (F := Ideal) x0 x5 x6 (ix1 c))
          (Ideal.sqrt (val_main_v7 (F := Ideal) x0 x5 x6 (ix1 c) + (Ideal.ofBits .f32 0x3A83126F#32 : EReal))) * x7 (ix1 c) + x8 (ix1 c) := by
  pointwise [val_main_v22, val_main_v21, val_main_v20, val_main_v19, val_main_v18, val_main_v17, val_main_v16, val_main_v15, val_main_v14, val_main_v13,
    val_main_v12, val_main_v11, val_main_v10, val_main_v9, val_main_v8, val_main_cst_1]

/-- The prediction: the rectified normalised row times the second layer, plus its bias. -/
theorem predicted (r : Fin 100000) (d : Fin 3) :
    val_main_v27 (F := Ideal) x0 x5 x6 x7 x8 x9 x10 (ix2 r d)
      = (∑ c : Fin 64, max (val_main_v22 (F := Ideal) x0 x5 x6 x7 x8 (ix2 r c)) 0 * x9 (ix2 c d)) + x10 (ix1 d) := by
  pointwise [val_main_v27, val_main_v26, val_main_v25, val_main_v24, val_main_v23, val_main_call1_v0, val_main_call1_cst]

/-- The class scores: the row times the segmentation weights, plus the bias. -/
theorem scores (r : Fin 100000) (c : Fin 20) :
    val_main_v31 (F := Ideal) x0 x11 x12 (ix2 r c) = (∑ k : Fin 64, x0 (ix2 r k) * x11 (ix2 k c)) + x12 (ix1 c) := by
  pointwise [val_main_v31, val_main_v30, val_main_v29, val_main_v28]

/-- A row counts where its class label isn't -1. -/
theorem valid (r : Fin 100000) :
    val_main_v34 (F := Ideal) x3 (ix1 r) = FloatOps.uitofp (F := Ideal) .f32 (IntOp.cmpi .ne (x3 (ix1 r)) 4294967295#32) := by
  pointwise [val_main_v34, val_main_v33, val_main_v32, val_main_c_2]

/-- A row counts where its instance label isn't -1. -/
theorem masked (r : Fin 100000) :
    val_main_v48 (F := Ideal) x4 (ix1 r) = FloatOps.uitofp (F := Ideal) .f32 (IntOp.cmpi .ne (x4 (ix1 r)) 4294967295#32) := by
  pointwise [val_main_v48, val_main_v47, val_main_v46, val_main_c_8]

/-- A row's top score is the maximum of its scores. -/
theorem top_score (r : Fin 100000) :
    val_main_call3_v0 (F := Ideal) x0 x11 x12 (ix1 r)
      = Cert.KernelIdeal.Fused.topScore (fun k => val_main_v31 (F := Ideal) x0 x11 x12 (ix2 r k)) := by
  unfold val_main_call3_v0 Cert.KernelIdeal.Fused.topScore
  pointwise [val_main_call3_cst]

/-- The top score, bounded below by minus infinity. -/
theorem top_bounded (r : Fin 100000) :
    val_main_call3_v2 (F := Ideal) x0 x11 x12 (ix1 r)
      = max (Ideal.ofBits .f32 0xFF800000#32 : EReal) (val_main_call3_v0 (F := Ideal) x0 x11 x12 (ix1 r)) := by
  rw [val_main_call3_v2_apply, val_main_call3_v1_apply, val_main_call3_cst_0_apply]
  rfl

/-- A score less the row's top score. -/
theorem centred (r : Fin 100000) (c : Fin 20) :
    val_main_call3_v5 (F := Ideal) x0 x11 x12 (ix2 r c)
      = val_main_v31 (F := Ideal) x0 x11 x12 (ix2 r c) - val_main_call3_v2 (F := Ideal) x0 x11 x12 (ix1 r) := by
  pointwise [val_main_call3_v5, val_main_call3_v4, val_main_call3_v3]

/-- A log-probability: the centred score less the logarithm of the sum of the exponentials. -/
theorem logprob (r : Fin 100000) (c : Fin 20) :
    val_main_v36 (F := Ideal) x0 x11 x12 (ix2 r c)
      = val_main_call3_v5 (F := Ideal) x0 x11 x12 (ix2 r c)
        - Ideal.log (∑ k : Fin 20, Ideal.exp (val_main_call3_v5 (F := Ideal) x0 x11 x12 (ix2 r k))) := by
  pointwise [val_main_v36, val_main_call3_v10, val_main_call3_v9, val_main_call3_v8, val_main_call3_v7, val_main_call3_v6, val_main_call3_cst_1]

/-- A sum begun at zero is the sum. -/
theorem zero_sum (f : Fin 100000 → EReal) : (Ideal.ofBits .f32 0x00000000#32 : EReal) + ∑ r, f r = ∑ r, f r := by
  rw [Ideal.ofBits_zero_f32, zero_add]

/-- The cross-entropy's total is the sum over the rows. -/
theorem ce_sum : val_main_v42 (F := Ideal) x0 x3 x11 x12 ix0 = ∑ r : Fin 100000, val_main_v41 (F := Ideal) x0 x3 x11 x12 (ix1 r) := by
  rw [val_main_v42_apply, sum_idx1, val_main_cst_5_apply]
  exact zero_sum _

/-- The number of labelled rows is the sum over the rows. -/
theorem valid_sum : val_main_v43 (F := Ideal) x3 ix0 = ∑ r : Fin 100000, val_main_v34 (F := Ideal) x3 (ix1 r) := by
  rw [val_main_v43_apply, sum_idx1, val_main_cst_6_apply]
  exact zero_sum _

/-- A row's cross-entropy: minus the picked log-probability, where the row counts. -/
theorem ce_row (r : Fin 100000) :
    val_main_v41 (F := Ideal) x0 x3 x11 x12 (ix1 r)
      = -(val_main_v38 (F := Ideal) x0 x3 x11 x12 (ix2 r 0)) * val_main_v34 (F := Ideal) x3 (ix1 r) := by
  pointwise [val_main_v41, val_main_v40, val_main_v39]

/-- The segmentation loss: the total over the number of labelled rows and a small number. -/
theorem ce :
    val_main_v45 (F := Ideal) x0 x3 x11 x12 ix0
      = Ideal.div (∑ r : Fin 100000, -(val_main_v38 (F := Ideal) x0 x3 x11 x12 (ix2 r 0)) * val_main_v34 (F := Ideal) x3 (ix1 r))
          ((∑ r : Fin 100000, val_main_v34 (F := Ideal) x3 (ix1 r)) + (Ideal.ofBits .f32 0x322BCC77#32 : EReal)) := by
  rw [val_main_v45_apply, val_main_v44_apply, val_main_cst_7_apply, ce_sum, valid_sum]
  simp only [ce_row]
  rfl

/-- The true displacement: the centroid less the coordinate. -/
theorem shift (r : Fin 100000) (d : Fin 3) : val_main_v49 (F := Ideal) x1 x2 (ix2 r d) = x2 (ix2 r d) - x1 (ix2 r d) := by
  pointwise [val_main_v49]

/-- The distances' total is the sum over the rows. -/
theorem distance_sum : val_main_v54 (F := Ideal) x0 x1 x2 x4 x5 x6 x7 x8 x9 x10 ix0 = ∑ r : Fin 100000, val_main_v53 (F := Ideal) x0 x1 x2 x4 x5 x6 x7 x8 x9 x10 (ix1 r) := by
  rw [val_main_v54_apply, sum_idx1, val_main_cst_10_apply]
  exact zero_sum _

/-- The number of masked rows is the sum over the rows. -/
theorem masked_sum : val_main_v55 (F := Ideal) x4 ix0 = ∑ r : Fin 100000, val_main_v48 (F := Ideal) x4 (ix1 r) := by
  rw [val_main_v55_apply, sum_idx1, val_main_cst_11_apply]
  exact zero_sum _

/-- A row's distance: the absolute differences summed, where the row counts. -/
theorem distance_row (r : Fin 100000) :
    val_main_v53 (F := Ideal) x0 x1 x2 x4 x5 x6 x7 x8 x9 x10 (ix1 r)
      = (∑ d : Fin 3,
            FloatOps.absf (F := Ideal) (φ := .f32) (val_main_v27 (F := Ideal) x0 x5 x6 x7 x8 x9 x10 (ix2 r d) - val_main_v49 (F := Ideal) x1 x2 (ix2 r d)))
              * val_main_v48 (F := Ideal) x4 (ix1 r) := by
  pointwise [val_main_v53, val_main_v52, val_main_v51, val_main_v50, val_main_cst_9]

/-- The distance loss: the total over the number of masked rows and a small number. -/
theorem distance :
    val_main_v57 (F := Ideal) x0 x1 x2 x4 x5 x6 x7 x8 x9 x10 ix0
      = Ideal.div (∑ r : Fin 100000, (∑ d : Fin 3,
            FloatOps.absf (F := Ideal) (φ := .f32) (val_main_v27 (F := Ideal) x0 x5 x6 x7 x8 x9 x10 (ix2 r d) - val_main_v49 (F := Ideal) x1 x2 (ix2 r d)))
              * val_main_v48 (F := Ideal) x4 (ix1 r))
          ((∑ r : Fin 100000, val_main_v48 (F := Ideal) x4 (ix1 r)) + (Ideal.ofBits .f32 0x322BCC77#32 : EReal)) := by
  rw [val_main_v57_apply, val_main_v56_apply, val_main_cst_12_apply, distance_sum, masked_sum]
  simp only [distance_row]
  rfl

/-- A row's cosine is that of its predicted and true displacements. -/
theorem cosine_row (r : Fin 100000) :
    val_main_v69 (F := Ideal) x0 x1 x2 x5 x6 x7 x8 x9 x10 (ix1 r)
      = Cert.Loss.cosine (fun d => val_main_v27 (F := Ideal) x0 x5 x6 x7 x8 x9 x10 (ix2 r d)) (fun d => val_main_v49 (F := Ideal) x1 x2 (ix2 r d)) := by
  pointwise [val_main_v69, val_main_v68, val_main_v67, val_main_v66, val_main_v65, val_main_v64, val_main_v63, val_main_v62, val_main_v61, val_main_v60,
    val_main_v59, val_main_v58, val_main_call5_v0, val_main_call5_v1, val_main_call5_v2, val_main_call5_cst, val_main_call6_v0, val_main_call6_v1,
    val_main_call6_v2, val_main_call6_cst, val_main_cst_13, val_main_cst_14, val_main_cst_15, Cert.Loss.cosine]

/-- The cosines' total is the sum over the rows. -/
theorem direction_sum : val_main_v72 (F := Ideal) x0 x1 x2 x4 x5 x6 x7 x8 x9 x10 ix0 = ∑ r : Fin 100000, val_main_v71 (F := Ideal) x0 x1 x2 x4 x5 x6 x7 x8 x9 x10 (ix1 r) := by
  rw [val_main_v72_apply, sum_idx1, val_main_cst_16_apply]
  exact zero_sum _

/-- The number of masked rows, summed once more for the cosine loss. -/
theorem masked_sum_again : val_main_v73 (F := Ideal) x4 ix0 = ∑ r : Fin 100000, val_main_v48 (F := Ideal) x4 (ix1 r) := by
  rw [val_main_v73_apply, sum_idx1, val_main_cst_17_apply]
  exact zero_sum _

/-- A row's term: minus its cosine, where the row counts. -/
theorem direction_row (r : Fin 100000) :
    val_main_v71 (F := Ideal) x0 x1 x2 x4 x5 x6 x7 x8 x9 x10 (ix1 r)
      = -(val_main_v69 (F := Ideal) x0 x1 x2 x5 x6 x7 x8 x9 x10 (ix1 r)) * val_main_v48 (F := Ideal) x4 (ix1 r) := by
  pointwise [val_main_v71, val_main_v70]

/-- The cosine loss: the total over the number of masked rows and a small number. -/
theorem direction :
    val_main_v75 (F := Ideal) x0 x1 x2 x4 x5 x6 x7 x8 x9 x10 ix0
      = Ideal.div (∑ r : Fin 100000, -(val_main_v69 (F := Ideal) x0 x1 x2 x5 x6 x7 x8 x9 x10 (ix1 r)) * val_main_v48 (F := Ideal) x4 (ix1 r))
          ((∑ r : Fin 100000, val_main_v48 (F := Ideal) x4 (ix1 r)) + (Ideal.ofBits .f32 0x322BCC77#32 : EReal)) := by
  rw [val_main_v75_apply, val_main_v74_apply, val_main_cst_18_apply, direction_sum, masked_sum_again]
  simp only [direction_row]
  rfl

/-- The loss: the segmentation loss, the distance loss and the cosine loss. -/
theorem total :
    val_main_v78 (F := Ideal) x0 x1 x2 x3 x4 x5 x6 x7 x8 x9 x10 x11 x12 (ix2 0 0)
      = val_main_v45 (F := Ideal) x0 x3 x11 x12 ix0 + val_main_v57 (F := Ideal) x0 x1 x2 x4 x5 x6 x7 x8 x9 x10 ix0
        + val_main_v75 (F := Ideal) x0 x1 x2 x4 x5 x6 x7 x8 x9 x10 ix0 := by
  unfold val_main_v78
  refine Eq.trans (b := val_main_v77 (F := Ideal) x0 x1 x2 x3 x4 x5 x6 x7 x8 x9 x10 x11 x12 ix0) ?_ ?_
  · generalize val_main_v77 (F := Ideal) x0 x1 x2 x3 x4 x5 x6 x7 x8 x9 x10 x11 x12 = y
    exact congrArg y (funext fun a => a.elim0)
  · rw [val_main_v77_apply, val_main_v76_apply]
    rfl

end Cert.ReferenceIdeal.Rows

end
-- ==== Proof.Values.RefLoss.lean ====
/- The reference's value is the reference's loss of the arguments. -/
module

public import proofs.«01_k».proof.Proof.Values.Reference

@[expose] public section

set_option maxRecDepth 16384

noncomputable section

namespace Cert.ReferenceIdeal.Rows

open Cert.ReferenceIdeal Cert.ReferenceIdeal.Gen Cert.ReferenceIdeal.Read
open Idealize.ShloMosaic Idealize.SL.Sem

variable (x0 : Vec Ideal S100000x64 .f32) (x1 x2 : Vec Ideal S100000x3 .f32) (x3 x4 : Vec Ideal S100000 .i32)
  (x5 : Vec Ideal S64x64 .f32) (x6 x7 x8 : Vec Ideal S64 .f32) (x9 : Vec Ideal S64x3 .f32) (x10 : Vec Ideal S3 .f32)
  (x11 : Vec Ideal S64x20 .f32) (x12 : Vec Ideal S20 .f32)

/-- The arguments as the loss's data. -/
def data : Cert.Loss.Data where
  feat r k := x0 (ix2 r k)
  coord r d := x1 (ix2 r d)
  cent r d := x2 (ix2 r d)
  seg r := x3 (ix1 r)
  inst r := x4 (ix1 r)
  W1 k c := x5 (ix2 k c)
  b1 c := x6 (ix1 c)
  ga c := x7 (ix1 c)
  be c := x8 (ix1 c)
  W2 c d := x9 (ix2 c d)
  b2 d := x10 (ix1 d)
  Ws k c := x11 (ix2 k c)
  bs c := x12 (ix1 c)

/-- The hidden layer, of the data. -/
theorem hidden_data (r : Fin 100000) (c : Fin 64) :
    val_main_v3 (F := Ideal) x0 x5 x6 (ix2 r c) = (data x0 x1 x2 x3 x4 x5 x6 x7 x8 x9 x10 x11 x12).refHid r c :=
  hidden x0 x5 x6 r c

/-- A column's mean, of the data. -/
theorem mean_data (c : Fin 64) :
    val_main_v6 (F := Ideal) x0 x5 x6 (ix1 c)
      = Cert.Loss.colMean fun q => (data x0 x1 x2 x3 x4 x5 x6 x7 x8 x9 x10 x11 x12).refHid q c := by
  rw [mean]
  simp only [hidden_data x0 x1 x2 x3 x4 x5 x6 x7 x8 x9 x10 x11 x12]
  rfl

/-- A column's variance, of the data. -/
theorem variance_data (c : Fin 64) :
    val_main_v7 (F := Ideal) x0 x5 x6 (ix1 c)
      = Cert.Loss.colVar fun q => (data x0 x1 x2 x3 x4 x5 x6 x7 x8 x9 x10 x11 x12).refHid q c := by
  rw [variance, var_ratio]
  simp only [mean_again, mean_data x0 x1 x2 x3 x4 x5 x6 x7 x8 x9 x10 x11 x12, hidden_data x0 x1 x2 x3 x4 x5 x6 x7 x8 x9 x10 x11 x12]
  rfl

/-- The normalised entry, of the data. -/
theorem normed_data (r : Fin 100000) (c : Fin 64) :
    val_main_v22 (F := Ideal) x0 x5 x6 x7 x8 (ix2 r c)
      = Cert.Loss.normed (fun q => (data x0 x1 x2 x3 x4 x5 x6 x7 x8 x9 x10 x11 x12).refHid q c) (x7 (ix1 c)) (x8 (ix1 c)) r := by
  rw [normed, mean_data x0 x1 x2 x3 x4 x5 x6 x7 x8 x9 x10 x11 x12, variance_data x0 x1 x2 x3 x4 x5 x6 x7 x8 x9 x10 x11 x12,
    hidden_data x0 x1 x2 x3 x4 x5 x6 x7 x8 x9 x10 x11 x12]
  rfl

/-- The prediction, of the data. -/
theorem predicted_data (r : Fin 100000) (d : Fin 3) :
    val_main_v27 (F := Ideal) x0 x5 x6 x7 x8 x9 x10 (ix2 r d) = (data x0 x1 x2 x3 x4 x5 x6 x7 x8 x9 x10 x11 x12).refPred r d := by
  rw [predicted]
  simp only [normed_data x0 x1 x2 x3 x4 x5 x6 x7 x8 x9 x10 x11 x12]
  rfl

/-- The true displacement, of the data. -/
theorem shift_data (r : Fin 100000) (d : Fin 3) :
    val_main_v49 (F := Ideal) x1 x2 (ix2 r d) = (data x0 x1 x2 x3 x4 x5 x6 x7 x8 x9 x10 x11 x12).disp r d :=
  shift x1 x2 r d

/-- A row's class scores, of the data. -/
theorem scores_data (r : Fin 100000) :
    (fun c => val_main_v31 (F := Ideal) x0 x11 x12 (ix2 r c)) = (data x0 x1 x2 x3 x4 x5 x6 x7 x8 x9 x10 x11 x12).refScore r :=
  funext fun c => scores x0 x11 x12 r c

/-- A row's log-probabilities. -/
theorem logprob_rows (r : Fin 100000) (c : Fin 20) :
    val_main_v36 (F := Ideal) x0 x11 x12 (ix2 r c) = Cert.Loss.logProb (fun k => val_main_v31 (F := Ideal) x0 x11 x12 (ix2 r k)) c := by
  rw [logprob]
  simp only [centred, top_bounded, top_score]
  rfl

/-- The reference's value is the reference's loss. -/
theorem value_eq : val_main_v78 (F := Ideal) x0 x1 x2 x3 x4 x5 x6 x7 x8 x9 x10 x11 x12
    = fun _ => (data x0 x1 x2 x3 x4 x5 x6 x7 x8 x9 x10 x11 x12).refLoss := by
  funext i
  idx_vars i
  obtain rfl : i0 = 0 := Subsingleton.elim _ _
  obtain rfl : i1 = 0 := Subsingleton.elim _ _
  rw [total, ce, distance, direction]
  simp only [picked, logprob_rows, cosine_row, valid, masked, scores_data x0 x1 x2 x3 x4 x5 x6 x7 x8 x9 x10 x11 x12,
    predicted_data x0 x1 x2 x3 x4 x5 x6 x7 x8 x9 x10 x11 x12, shift_data x0 x1 x2 x3 x4 x5 x6 x7 x8 x9 x10 x11 x12]
  rfl

end Cert.ReferenceIdeal.Rows

end
-- ==== Proof.Values.Finite.lean ====
/- The precondition, read: the arguments it names are real numbers. -/
module

public import proofs.«01_k».proof.Defs
public import proofs.«01_k».proof.Proof.Values.Folds
public import proofs.«01_k».proof.Proof.Values.Equation

@[expose] public section

set_option maxRecDepth 16384

noncomputable section

namespace Cert.Pre_finite.Read

open Idealize.ShloMosaic Idealize.SL.Sem Cert.Pre_finite

/-- The shape conditions of the precondition's operations. -/
theorem facts : Cert.Pre_finite.Facts where
  bcast_S_S100000x64 := by decide
  bcast_S_S64x64 := by decide
  bcast_S_S64 := by decide
  bcast_S_S64x20 := by decide
  bcast_S_S20 := by decide

/-- The infinite word is the greatest extended real. -/
theorem infinity_literal : (Ideal.ofBits .f32 0x7F800000#32 : EReal) = ⊤ := by
  simp [Ideal.ofBits, Ideal.ieee]

/-- A number whose magnitude is below infinity is real. -/
theorem real_of_small (x : EReal) (h : max x (-x) < ⊤) : ∃ r : ℝ, x = (r : EReal) := by
  induction x with
  | bot => simp at h
  | top => simp at h
  | coe r => exact ⟨r, rfl⟩

/-- An array whose comparison with infinity is all ones is real everywhere. -/
theorem all_real {s : Shape} (x : FVec Ideal s .f32) (b : S_.BroadcastsInDim s (![] : Fin 0 → Fin s.rank))
    (e : cmpf .olt (Host.absf x) (broadcastInDim s ![] b (constant S_ .f32 0x7F800000#32)) = fun _ => 1#1) (i : s.Idx) :
    ∃ r : ℝ, x i = (r : EReal) := by
  have h : BitVec.ofBool (decide (max (x i) (-(x i)) < (Ideal.ofBits .f32 0x7F800000#32 : EReal))) = 1#1 := congrFun e i
  refine real_of_small (x i) ?_
  rw [← infinity_literal]
  by_contra q
  rw [decide_eq_false q] at h
  exact absurd h (by decide)

/-- Under the precondition the loss's data is finite where the equation needs it. -/
theorem data_finite (m : (ℓ : Loc Cert.KernelIdeal.nD Cert.KernelIdeal.τ Cert.KernelIdeal.sig) → Buf (Elt Ideal) ℓ)
    (h : @Cert.Pre_KernelIdeal_finite facts m) (c : Dev Cert.KernelIdeal.nD) : (Cert.KernelIdeal.Fused.dataOf m c).Finite := by
  obtain ⟨h0, h5, h6, h7, h11, h12⟩ := h c
  exact {
    feat := fun r k => all_real _ facts.bcast_S_S100000x64 h0 (ix2 r k)
    W1 := fun k c => all_real _ facts.bcast_S_S64x64 h5 (ix2 k c)
    b1 := fun c => all_real _ facts.bcast_S_S64 h6 (ix1 c)
    ga := fun c => all_real _ facts.bcast_S_S64 h7 (ix1 c)
    Ws := fun k c => all_real _ facts.bcast_S_S64x20 h11 (ix2 k c)
    bs := fun c => all_real _ facts.bcast_S_S20 h12 (ix1 c) }

end Cert.Pre_finite.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Kernel.Frame
public import proofs.«01_k».proof.Proof.KernelIdeal.Frame
public import proofs.«01_k».proof.Proof.KernelIdeal.Result
public import proofs.«01_k».proof.Proof.Values.Folds
public import proofs.«01_k».proof.Proof.Values.RefLoss
public import proofs.«01_k».proof.Proof.Values.Finite
public import Idealize.ShloMosaic.Lib.Claim
public import Idealize.ShloMosaic.Adequacy
public import Idealize.ShloMosaic.Init

@[expose] public section

noncomputable section

namespace Cert.Proof

open Idealize.ShloMosaic Idealize.SL.Sem

/-- The kernel runs, leaves its arguments as they were and every counter at zero. -/
theorem frame_kernel : @Cert.quiescent_Kernel Cert.Kernel.Gen.facts :=
  fun m ρ _ => Cert.Kernel.Fused.frame m ρ

/-- The kernel with its named constant does the same. -/
theorem frame_kernel_ideal : @Cert.quiescent_KernelIdeal Cert.KernelIdeal.Gen.facts :=
  fun m ρ _ => Cert.KernelIdeal.Fused.frame m ρ

/-- The reference runs and leaves its arguments as they were; it declares no semaphore. -/
theorem frame_reference : @Cert.quiescent_ReferenceIdeal Cert.ReferenceIdeal.Gen.facts :=
  fun m ρ _ => (θ_run Cert.ReferenceIdeal.defs _ _).mono
    (fun r h => ⟨fun c => (h c).2, Idealize.ShloMosaic.sem_eq_zero_of_no_sems (by decide) r.2⟩)
    (Cert.ReferenceIdeal.Value.run m ρ)

/-- The one rewriting names the literal 1e-5 as one over the number of rows. -/
theorem preserves : Cert.preserves_Kernel_KernelIdeal :=
  IdealRules.named_const.statement _ _ _ _ _ rfl

/-- Where the six arguments are finite, the reference's loss of a memory's arguments is the kernel's. -/
theorem losses_agree
    (m : (ℓ : Loc Cert.KernelIdeal.nD Cert.KernelIdeal.τ Cert.KernelIdeal.sig) → Buf (Elt Ideal) ℓ) (c : Dev Cert.KernelIdeal.nD)
    (h : (Cert.KernelIdeal.Fused.dataOf m c).Finite) :
    (Cert.KernelIdeal.Fused.dataOf m c).refLoss = (Cert.KernelIdeal.Fused.dataOf m c).kernelLoss :=
  ((Cert.KernelIdeal.Fused.dataOf m c).loss_eq h).symm

/-- From memories that agree on the arguments, the kernel with its named constant and the reference end with the
    same loss over the extended reals. -/
theorem algebraic : @Cert.algebraic_KernelIdeal_ReferenceIdeal_pre_finite Cert.KernelIdeal.Gen.facts Cert.ReferenceIdeal.Gen.facts
    Cert.Pre_finite.Read.facts := by
  intro m g m' g' hpre hagree
  refine ⟨fun c => Cert.KernelIdeal.Fused.resultBuf m c, ?_, ?_⟩
  · exact (θ_run Cert.KernelIdeal.defs _ _).mono (fun r h c => ⟨h.1 c, h.2.1 c⟩)
      (θ_run_and (Cert.KernelIdeal.Fused.run_result m g) (Cert.KernelIdeal.Fused.frame m g))
  · refine (θ_run Cert.ReferenceIdeal.defs _ _).mono (fun r h c => ⟨(h c).1.trans ?_, (h c).2⟩) (Cert.ReferenceIdeal.Value.run m' g')
    obtain ⟨e0, e1, e2, e3, e4, e5, e6, e7, e8, e9, e10, e11, e12⟩ := hagree c
    rw [Cert.ReferenceIdeal.Read.val_main_v78_eq, e0, e1, e2, e3, e4, e5, e6, e7, e8, e9, e10, e11, e12,
      Cert.ReferenceIdeal.Rows.value_eq]
    show (fun _ => (Cert.KernelIdeal.Fused.dataOf m c).refLoss) = Cert.KernelIdeal.Fused.result m c
    rw [Cert.KernelIdeal.Fused.result_eq, losses_agree m c (Cert.Pre_finite.Read.data_finite m hpre c)]

/-- All the claims together. -/
theorem claim : Cert.Claim :=
  ⟨Cert.Kernel.Gen.facts, Cert.KernelIdeal.Gen.facts, Cert.ReferenceIdeal.Gen.facts, Cert.Pre_finite.Read.facts,
    frame_kernel, frame_kernel_ideal, fun m ρ _ => Cert.KernelIdeal.Fused.frame m ρ, frame_reference,
    fun m ρ _ => frame_reference m ρ trivial, preserves, algebraic⟩

end Cert.Proof

end
